-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "two_over_length" .f32 0x3CAAAAAB#32 ((1 / 48 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x96x321x16 : Shape := ⟨4, ![32, 96, 321, 16]⟩
abbrev S32x96 : Shape := ⟨2, ![32, 96]⟩
abbrev S1x321 : Shape := ⟨2, ![1, 321]⟩
abbrev S1 : Shape := ⟨1, ![1]⟩
abbrev S4x96 : Shape := ⟨2, ![4, 96]⟩
abbrev S4 : Shape := ⟨1, ![4]⟩
abbrev S32x96x321x1 : Shape := ⟨4, ![32, 96, 321, 1]⟩
abbrev S32x96x321 : Shape := ⟨3, ![32, 96, 321]⟩
abbrev S_ : Shape := ⟨0, ![]⟩

class Facts : Prop where
  slices_S32x96x321x16_S32x96x321x1_0_0_0_0 : S32x96x321x16.Slices ![0, 0, 0, 0] S32x96x321x1
  shapeCasts_S32x96x321x1_S32x96x321 : S32x96x321x1.ShapeCasts S32x96x321
  bcast_S_S32x96x321 : S_.BroadcastsInDim S32x96x321 (![] : Fin 0 → Fin S32x96x321.rank)
  bcast_S_S1x321 : S_.BroadcastsInDim S1x321 (![] : Fin 0 → Fin S1x321.rank)
  bcast_S_S1 : S_.BroadcastsInDim S1 (![] : Fin 0 → Fin S1.rank)
  bcast_S_S4x96 : S_.BroadcastsInDim S4x96 (![] : Fin 0 → Fin S4x96.rank)
  bcast_S_S4 : S_.BroadcastsInDim S4 (![] : Fin 0 → Fin S4.rank)

variable [Facts]

def fn {F : FTy → Type} [FloatOps F] (main_arg0 : FVec F S32x96x321x16 .f32) (main_arg1 : FVec F S32x96 .f32) (main_arg2 : FVec F S1x321 .f32) (main_arg3 : FVec F S1 .f32) (main_arg4 : FVec F S4x96 .f32) (main_arg5 : FVec F S4 .f32) (main_arg6 : FVec F S4x96 .f32) (main_arg7 : FVec F S4 .f32) : IVec S32x96x321 1 × IVec S1x321 1 × IVec S1 1 × IVec S4x96 1 × IVec S4 1 :=
  let main_v0 : FVec F S32x96x321x1 .f32 := (extractStridedSlice S32x96x321x1 ![0, 0, 0, 0] · slices_S32x96x321x16_S32x96x321x1_0_0_0_0) main_arg0
  let main_v1 : FVec F S32x96x321 .f32 := shapeCast S32x96x321 main_v0 shapeCasts_S32x96x321x1_S32x96x321
  let main_v2 : FVec F S32x96x321 .f32 := Host.absf main_v1
  let main_cst : FVec F S_ .f32 := constant S_ .f32 0x7F800000#32
  let main_v3 : FVec F S32x96x321 .f32 := broadcastInDim S32x96x321 ![] bcast_S_S32x96x321 main_cst
  let main_v4 : IVec S32x96x321 1 := cmpf .olt main_v2 main_v3
  let main_v5 : FVec F S1x321 .f32 := Host.absf main_arg2
  let main_cst_0 : FVec F S_ .f32 := constant S_ .f32 0x7F800000#32
  let main_v6 : FVec F S1x321 .f32 := broadcastInDim S1x321 ![] bcast_S_S1x321 main_cst_0
  let main_v7 : IVec S1x321 1 := cmpf .olt main_v5 main_v6
  let main_v8 : FVec F S1 .f32 := Host.absf main_arg3
  let main_cst_1 : FVec F S_ .f32 := constant S_ .f32 0x7F800000#32
  let main_v9 : FVec F S1 .f32 := broadcastInDim S1 ![] bcast_S_S1 main_cst_1
  let main_v10 : IVec S1 1 := cmpf .olt main_v8 main_v9
  let main_v11 : FVec F S4x96 .f32 := Host.absf main_arg4
  let main_cst_2 : FVec F S_ .f32 := constant S_ .f32 0x7F800000#32
  let main_v12 : FVec F S4x96 .f32 := broadcastInDim S4x96 ![] bcast_S_S4x96 main_cst_2
  let main_v13 : IVec S4x96 1 := cmpf .olt main_v11 main_v12
  let main_v14 : FVec F S4 .f32 := Host.absf main_arg5
  let main_cst_3 : FVec F S_ .f32 := constant S_ .f32 0x7F800000#32
  let main_v15 : FVec F S4 .f32 := broadcastInDim S4 ![] bcast_S_S4 main_cst_3
  let main_v16 : IVec S4 1 := cmpf .olt main_v14 main_v15
  (main_v4, main_v7, main_v10, main_v13, main_v16)
-- ==== Kernel.lean ====
abbrev S32x96x321x16 : Shape := ⟨4, ![32, 96, 321, 16]⟩
abbrev S32x96 : Shape := ⟨2, ![32, 96]⟩
abbrev S1x321 : Shape := ⟨2, ![1, 321]⟩
abbrev S1 : Shape := ⟨1, ![1]⟩
abbrev S4x96 : Shape := ⟨2, ![4, 96]⟩
abbrev S4 : Shape := ⟨1, ![4]⟩
abbrev S96x96 : Shape := ⟨2, ![96, 96]⟩
abbrev S96x47 : Shape := ⟨2, ![96, 47]⟩
abbrev S47x96 : Shape := ⟨2, ![47, 96]⟩
abbrev S32x96x321x1 : Shape := ⟨4, ![32, 96, 321, 1]⟩
abbrev S32x96x321 : Shape := ⟨3, ![32, 96, 321]⟩
abbrev S32x321x96 : Shape := ⟨3, ![32, 321, 96]⟩
abbrev S10272x96 : Shape := ⟨2, ![10272, 96]⟩
abbrev S32x32 : Shape := ⟨2, ![32, 32]⟩
abbrev S_ : Shape := ⟨0, ![]⟩
abbrev S32x32x1 : Shape := ⟨3, ![32, 32, 1]⟩
abbrev S321 : Shape := ⟨1, ![321]⟩
abbrev S1x1x321 : Shape := ⟨3, ![1, 1, 321]⟩
abbrev S32x32x321 : Shape := ⟨3, ![32, 32, 321]⟩
abbrev S32x10272 : Shape := ⟨2, ![32, 10272]⟩
abbrev S96x4 : Shape := ⟨2, ![96, 4]⟩
abbrev S1x4 : Shape := ⟨2, ![1, 4]⟩
abbrev S1x1 : Shape := ⟨2, ![1, 1]⟩
abbrev S32x1 : Shape := ⟨2, ![32, 1]⟩
abbrev S10272x47 : Shape := ⟨2, ![10272, 47]⟩
abbrev S10272 : Shape := ⟨1, ![10272]⟩
abbrev S10272x1 : Shape := ⟨2, ![10272, 1]⟩
abbrev S32x47 : Shape := ⟨2, ![32, 47]⟩
abbrev S32x4 : Shape := ⟨2, ![32, 4]⟩
abbrev S32 : Shape := ⟨1, ![32]⟩
abbrev S1x1x4 : Shape := ⟨3, ![1, 1, 4]⟩
abbrev S1x1x1 : Shape := ⟨3, ![1, 1, 1]⟩
abbrev S96x321x16 : Shape := ⟨3, ![96, 321, 16]⟩
abbrev S1x96x321x16 : Shape := ⟨4, ![1, 96, 321, 16]⟩

abbrev nBuf : Space → Nat
  | .hbm => 38
  | .vmem => 14
  | .smem => 0
  | _ => 0

abbrev bufTy : (tb : Table) → Fin (tcTables nBuf tb) → BufTy
  | .hbm, ⟨0, _⟩ => ⟨S32x96x321x16, .f32⟩
  | .hbm, ⟨1, _⟩ => ⟨S32x96, .f32⟩
  | .hbm, ⟨2, _⟩ => ⟨S1x321, .f32⟩
  | .hbm, ⟨3, _⟩ => ⟨S1, .f32⟩
  | .hbm, ⟨4, _⟩ => ⟨S4x96, .f32⟩
  | .hbm, ⟨5, _⟩ => ⟨S4, .f32⟩
  | .hbm, ⟨6, _⟩ => ⟨S4x96, .f32⟩
  | .hbm, ⟨7, _⟩ => ⟨S4, .f32⟩
  | .hbm, ⟨8, _⟩ => ⟨S96x96, .f32⟩
  | .hbm, ⟨9, _⟩ => ⟨S96x47, .f32⟩
  | .hbm, ⟨10, _⟩ => ⟨S96x47, .f32⟩
  | .hbm, ⟨11, _⟩ => ⟨S47x96, .f32⟩
  | .hbm, ⟨12, _⟩ => ⟨S47x96, .f32⟩
  | .hbm, ⟨13, _⟩ => ⟨S32x96x321x1, .f32⟩
  | .hbm, ⟨14, _⟩ => ⟨S32x96x321, .f32⟩
  | .hbm, ⟨15, _⟩ => ⟨S32x321x96, .f32⟩
  | .hbm, ⟨16, _⟩ => ⟨S10272x96, .f32⟩
  | .hbm, ⟨17, _⟩ => ⟨S32x32, .i32⟩
  | .hbm, ⟨18, _⟩ => ⟨S32x32, .i32⟩
  | .hbm, ⟨19, _⟩ => ⟨S_, .i32⟩
  | .hbm, ⟨20, _⟩ => ⟨S32x32, .i32⟩
  | .hbm, ⟨21, _⟩ => ⟨S32x32, .i32⟩
  | .hbm, ⟨22, _⟩ => ⟨S32x32, .i1⟩
  | .hbm, ⟨23, _⟩ => ⟨S32x32, .f32⟩
  | .hbm, ⟨24, _⟩ => ⟨S32x32x1, .f32⟩
  | .hbm, ⟨25, _⟩ => ⟨S321, .f32⟩
  | .hbm, ⟨26, _⟩ => ⟨S1x1x321, .f32⟩
  | .hbm, ⟨27, _⟩ => ⟨S32x32x321, .f32⟩
  | .hbm, ⟨28, _⟩ => ⟨S32x32x321, .f32⟩
  | .hbm, ⟨29, _⟩ => ⟨S32x32x321, .f32⟩
  | .hbm, ⟨30, _⟩ => ⟨S32x10272, .f32⟩
  | .hbm, ⟨31, _⟩ => ⟨S96x4, .f32⟩
  | .hbm, ⟨32, _⟩ => ⟨S1x4, .f32⟩
  | .hbm, ⟨33, _⟩ => ⟨S1x1, .f32⟩
  | .hbm, ⟨34, _⟩ => ⟨S32x1, .f32⟩
  | .hbm, ⟨35, _⟩ => ⟨S1x1, .f32⟩
  | .hbm, ⟨36, _⟩ => ⟨S32x96x321x16, .f32⟩
  | .hbm, ⟨37, _⟩ => ⟨S_, .f32⟩
  | .local _ .vmem, ⟨0, _⟩ => ⟨S10272x96, .f32⟩
  | .local _ .vmem, ⟨1, _⟩ => ⟨S32x10272, .f32⟩
  | .local _ .vmem, ⟨2, _⟩ => ⟨S96x96, .f32⟩
  | .local _ .vmem, ⟨3, _⟩ => ⟨S96x47, .f32⟩
  | .local _ .vmem, ⟨4, _⟩ => ⟨S96x47, .f32⟩
  | .local _ .vmem, ⟨5, _⟩ => ⟨S47x96, .f32⟩
  | .local _ .vmem, ⟨6, _⟩ => ⟨S47x96, .f32⟩
  | .local _ .vmem, ⟨7, _⟩ => ⟨S96x4, .f32⟩
  | .local _ .vmem, ⟨8, _⟩ => ⟨S1x4, .f32⟩
  | .local _ .vmem, ⟨9, _⟩ => ⟨S1x1, .f32⟩
  | .local _ .vmem, ⟨10, _⟩ => ⟨S32x1, .f32⟩
  | .local _ .vmem, ⟨11, _⟩ => ⟨S1x1, .f32⟩
  | .local _ .vmem, ⟨12, _⟩ => ⟨S96x321x16, .f32⟩
  | .local _ .vmem, ⟨13, _⟩ => ⟨S96x321x16, .f32⟩
  | _, _ => ⟨S32x96x321x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_cst_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S10272x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x10272 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x47 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x47 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S47x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S47x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := .none
-- ==== KernelIdeal.lean ====
variable {F : FTy → Type} [FloatOps F] [Named F]
def κ : String → Option EReal := fun
  | "two_over_length" => some ((1 / 48 : ℝ) : EReal)
  | _ => none
-- ==== ReferenceIdeal.lean ====
abbrev S32x96x321x16 : Shape := ⟨4, ![32, 96, 321, 16]⟩
abbrev S32x96 : Shape := ⟨2, ![32, 96]⟩
abbrev S1x321 : Shape := ⟨2, ![1, 321]⟩
abbrev S1 : Shape := ⟨1, ![1]⟩
abbrev S4x96 : Shape := ⟨2, ![4, 96]⟩
abbrev S4 : Shape := ⟨1, ![4]⟩
abbrev S96x96 : Shape := ⟨2, ![96, 96]⟩
abbrev S96x47 : Shape := ⟨2, ![96, 47]⟩
abbrev S47x96 : Shape := ⟨2, ![47, 96]⟩
abbrev S32x96x321x1 : Shape := ⟨4, ![32, 96, 321, 1]⟩
abbrev S32x96x321 : Shape := ⟨3, ![32, 96, 321]⟩
abbrev S96x32x321 : Shape := ⟨3, ![96, 32, 321]⟩
abbrev S32x321x96 : Shape := ⟨3, ![32, 321, 96]⟩
abbrev S32x321x47 : Shape := ⟨3, ![32, 321, 47]⟩
abbrev S32x321x3 : Shape := ⟨3, ![32, 321, 3]⟩
abbrev S_ : Shape := ⟨0, ![]⟩
abbrev S32x321x3x1 : Shape := ⟨4, ![32, 321, 3, 1]⟩
abbrev S32x321x3x96 : Shape := ⟨4, ![32, 321, 3, 96]⟩
abbrev S32x321x6 : Shape := ⟨3, ![32, 321, 6]⟩
abbrev S32x321x6x96 : Shape := ⟨4, ![32, 321, 6, 96]⟩
abbrev S32x321x6x1 : Shape := ⟨4, ![32, 321, 6, 1]⟩
abbrev S321x1 : Shape := ⟨2, ![321, 1]⟩
abbrev S32x96x1 : Shape := ⟨3, ![32, 96, 1]⟩
abbrev S1x1x1 : Shape := ⟨3, ![1, 1, 1]⟩
abbrev S96x4 : Shape := ⟨2, ![96, 4]⟩
abbrev S32x4 : Shape := ⟨2, ![32, 4]⟩
abbrev S1x4 : Shape := ⟨2, ![1, 4]⟩
abbrev S32x3 : Shape := ⟨2, ![32, 3]⟩
abbrev S32x2 : Shape := ⟨2, ![32, 2]⟩
abbrev S32 : Shape := ⟨1, ![32]⟩
abbrev S32x1 : Shape := ⟨2, ![32, 1]⟩
abbrev S32x2x1 : Shape := ⟨3, ![32, 2, 1]⟩
abbrev S32x2x2 : Shape := ⟨3, ![32, 2, 2]⟩
abbrev S64 : Shape := ⟨1, ![64]⟩
abbrev S64x1 : Shape := ⟨2, ![64, 1]⟩
abbrev S64x2 : Shape := ⟨2, ![64, 2]⟩
abbrev S64x96x321x16 : Shape := ⟨4, ![64, 96, 321, 16]⟩
abbrev S64x1x1x1 : Shape := ⟨4, ![64, 1, 1, 1]⟩

abbrev nBuf : Space → Nat
  | .hbm => 201
  | .vmem => 0
  | .smem => 0
  | _ => 0

abbrev hbmTy0_0 (i : Nat) : BufTy := match i % 128 with
  | 0 => ⟨S32x96x321x16, .f32⟩
  | 1 => ⟨S32x96, .f32⟩
  | 2 => ⟨S1x321, .f32⟩
  | 3 => ⟨S1, .f32⟩
  | 4 => ⟨S4x96, .f32⟩
  | 5 => ⟨S4, .f32⟩
  | 6 => ⟨S4x96, .f32⟩
  | 7 => ⟨S4, .f32⟩
  | 8 => ⟨S96x96, .f32⟩
  | 9 => ⟨S96x47, .f32⟩
  | 10 => ⟨S96x47, .f32⟩
  | 11 => ⟨S47x96, .f32⟩
  | 12 => ⟨S47x96, .f32⟩
  | 13 => ⟨S32x96x321x1, .f32⟩
  | 14 => ⟨S32x96x321, .f32⟩
  | 15 => ⟨S96x32x321, .f32⟩
  | 16 => ⟨S32x96x321, .f32⟩
  | 17 => ⟨S32x321x96, .f32⟩
  | 18 => ⟨S32x321x47, .f32⟩
  | 19 => ⟨S32x321x47, .f32⟩
  | 20 => ⟨S32x321x47, .f32⟩
  | 21 => ⟨S32x321x47, .f32⟩
  | 22 => ⟨S32x321x47, .f32⟩
  | 23 => ⟨S32x321x47, .f32⟩
  | 24 => ⟨S32x321x47, .f32⟩
  | 25 => ⟨S32x321x3, .f32⟩
  | 26 => ⟨S32x321x3, .i32⟩
  | 27 => ⟨S_, .i32⟩
  | 28 => ⟨S32x321x3, .i32⟩
  | 29 => ⟨S32x321x3, .i1⟩
  | 30 => ⟨S_, .i32⟩
  | 31 => ⟨S32x321x3, .i32⟩
  | 32 => ⟨S32x321x3, .i32⟩
  | 33 => ⟨S32x321x3, .i32⟩
  | 34 => ⟨S32x321x3x1, .i32⟩
  | 35 => ⟨S32x321x3, .f32⟩
  | 36 => ⟨S_, .i32⟩
  | 37 => ⟨S32x321x3, .i32⟩
  | 38 => ⟨S32x321x3, .i1⟩
  | 39 => ⟨S_, .i32⟩
  | 40 => ⟨S32x321x3, .i32⟩
  | 41 => ⟨S32x321x3, .i32⟩
  | 42 => ⟨S32x321x3, .i32⟩
  | 43 => ⟨S32x321x3x1, .i32⟩
  | 44 => ⟨S32x321x3, .f32⟩
  | 45 => ⟨S32x321x3x1, .i32⟩
  | 46 => ⟨S32x321x3x96, .f32⟩
  | 47 => ⟨S32x321x3x1, .i32⟩
  | 48 => ⟨S32x321x3x96, .f32⟩
  | 49 => ⟨S32x321x6, .f32⟩
  | 50 => ⟨S32x321x3, .f32⟩
  | 51 => ⟨S32x321x6, .f32⟩
  | 52 => ⟨S32x321x6x96, .f32⟩
  | 53 => ⟨S32x321x3x96, .f32⟩
  | 54 => ⟨S32x321x6x96, .f32⟩
  | 55 => ⟨S32x321x6x1, .f32⟩
  | 56 => ⟨S32x321x6x96, .f32⟩
  | 57 => ⟨S32x321x6x96, .f32⟩
  | 58 => ⟨S32x321x6x1, .f32⟩
  | 59 => ⟨S32x321x6x96, .f32⟩
  | 60 => ⟨S32x321x6x96, .f32⟩
  | 61 => ⟨S32x321x6x96, .f32⟩
  | 62 => ⟨S_, .f32⟩
  | 63 => ⟨S32x321x6x96, .f32⟩
  | 64 => ⟨S32x321x6x96, .f32⟩
  | 65 => ⟨S_, .f32⟩
  | 66 => ⟨S32x321x96, .f32⟩
  | 67 => ⟨S32x96x321, .f32⟩
  | 68 => ⟨S32x96x321, .f32⟩
  | 69 => ⟨S321x1, .f32⟩
  | 70 => ⟨S32x96x1, .f32⟩
  | 71 => ⟨S1x1x1, .f32⟩
  | 72 => ⟨S32x96x1, .f32⟩
  | 73 => ⟨S32x96x1, .f32⟩
  | 74 => ⟨S32x96, .f32⟩
  | 75 => ⟨S96x4, .f32⟩
  | 76 => ⟨S32x4, .f32⟩
  | 77 => ⟨S1x4, .f32⟩
  | 78 => ⟨S32x4, .f32⟩
  | 79 => ⟨S32x4, .f32⟩
  | 80 => ⟨S32x3, .f32⟩
  | 81 => ⟨S32x3, .i32⟩
  | 82 => ⟨S32x2, .f32⟩
  | 83 => ⟨S32x2, .i32⟩
  | 84 => ⟨S_, .f32⟩
  | 85 => ⟨S32, .f32⟩
  | 86 => ⟨S_, .f32⟩
  | 87 => ⟨S32, .f32⟩
  | 88 => ⟨S32, .f32⟩
  | 89 => ⟨S32x1, .f32⟩
  | 90 => ⟨S32x2, .f32⟩
  | 91 => ⟨S32x2, .f32⟩
  | 92 => ⟨S32x2, .f32⟩
  | 93 => ⟨S_, .f32⟩
  | 94 => ⟨S32, .f32⟩
  | 95 => ⟨S32x1, .f32⟩
  | 96 => ⟨S32x2, .f32⟩
  | 97 => ⟨S32x2, .f32⟩
  | 98 => ⟨S32, .i32⟩
  | 99 => ⟨S32x1, .i32⟩
  | 100 => ⟨S_, .f32⟩
  | 101 => ⟨S32x4, .f32⟩
  | 102 => ⟨S32x2, .i32⟩
  | 103 => ⟨S32x2x1, .i32⟩
  | 104 => ⟨S32x2x1, .i32⟩
  | 105 => ⟨S32x2x2, .i32⟩
  | 106 => ⟨S32x4, .f32⟩
  | 107 => ⟨S_, .f32⟩
  | 108 => ⟨S32x4, .f32⟩
  | 109 => ⟨S32x4, .i1⟩
  | 110 => ⟨S32x4, .f32⟩
  | 111 => ⟨S_, .f32⟩
  | 112 => ⟨S4, .f32⟩
  | 113 => ⟨S_, .f32⟩
  | 114 => ⟨S4, .f32⟩
  | 115 => ⟨S_, .i32⟩
  | 116 => ⟨S_, .f32⟩
  | 117 => ⟨S_, .f32⟩
  | 118 => ⟨S1, .f32⟩
  | 119 => ⟨S_, .f32⟩
  | 120 => ⟨S1, .f32⟩
  | 121 => ⟨S1, .f32⟩
  | 122 => ⟨S4, .f32⟩
  | 123 => ⟨S4, .f32⟩
  | 124 => ⟨S4, .f32⟩
  | 125 => ⟨S_, .f32⟩
  | 126 => ⟨S_, .f32⟩
  | 127 => ⟨S_, .f32⟩
  | _ => ⟨S32x96x321x16, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .i1⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .i32⟩
  | 17 => ⟨S_, .f32⟩
  | 18 => ⟨S_, .f32⟩
  | 19 => ⟨S1, .f32⟩
  | 20 => ⟨S_, .f32⟩
  | 21 => ⟨S1, .f32⟩
  | 22 => ⟨S1, .f32⟩
  | 23 => ⟨S4, .f32⟩
  | 24 => ⟨S4, .f32⟩
  | 25 => ⟨S4, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S32x2, .i32⟩
  | 49 => ⟨S64, .i32⟩
  | 50 => ⟨S32, .i32⟩
  | 51 => ⟨S32x2, .i32⟩
  | 52 => ⟨S64, .i32⟩
  | 53 => ⟨S64, .i32⟩
  | 54 => ⟨S64, .i32⟩
  | 55 => ⟨S64, .i32⟩
  | 56 => ⟨S64x1, .i32⟩
  | 57 => ⟨S64, .i32⟩
  | 58 => ⟨S64x1, .i32⟩
  | 59 => ⟨S64, .i32⟩
  | 60 => ⟨S64x1, .i32⟩
  | 61 => ⟨S64x1, .i32⟩
  | 62 => ⟨S64x2, .i32⟩
  | 63 => ⟨S64, .f32⟩
  | 64 => ⟨S64x1, .i32⟩
  | 65 => ⟨S64x96x321x16, .f32⟩
  | 66 => ⟨S64x1x1x1, .f32⟩
  | 67 => ⟨S64x96x321x16, .f32⟩
  | 68 => ⟨S64x96x321x16, .f32⟩
  | 69 => ⟨S_, .f32⟩
  | 70 => ⟨S32x96x321x16, .f32⟩
  | 71 => ⟨S64x1, .i32⟩
  | 72 => ⟨S32x96x321x16, .f32⟩
  | _ => ⟨S32x96x321x16, .f32⟩

abbrev hbmTy (i : Nat) : BufTy := match i / 128 with
  | 0 => hbmTy0_0 i
  | 1 => hbmTy0_1 i
  | _ => ⟨S32x96x321x16, .f32⟩

abbrev bufTy : (tb : Table) → Fin (tcTables nBuf tb) → BufTy
  | .hbm, ⟨i, _⟩ => hbmTy i
  | _, _ => ⟨S32x96x321x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_cst_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_values : Ref sig .tc := ⟨.hbm, 25, rfl⟩
abbrev main_indices : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_v12 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_values_6 : Ref sig .tc := ⟨.hbm, 80, rfl⟩
abbrev main_indices_7 : Ref sig .tc := ⟨.hbm, 81, rfl⟩
abbrev main_v47 : Ref sig .tc := ⟨.hbm, 82, rfl⟩
abbrev main_v48 : Ref sig .tc := ⟨.hbm, 83, rfl⟩
abbrev main_cst_8 : Ref sig .tc := ⟨.hbm, 84, rfl⟩
abbrev main_v49 : Ref sig .tc := ⟨.hbm, 85, rfl⟩
abbrev main_cst_9 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_10 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_11 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_12 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_13 : Ref sig .tc := ⟨.hbm, 111, rfl⟩
abbrev main_v71 : Ref sig .tc := ⟨.hbm, 112, rfl⟩
abbrev main_cst_14 : Ref sig .tc := ⟨.hbm, 113, rfl⟩
abbrev main_v72 : Ref sig .tc := ⟨.hbm, 114, rfl⟩
abbrev main_c : Ref sig .tc := ⟨.hbm, 115, rfl⟩
abbrev main_call2_cst : Ref sig .tc := ⟨.hbm, 116, rfl⟩
abbrev main_call2_v0 : Ref sig .tc := ⟨.hbm, 117, rfl⟩
abbrev main_call2_v1 : Ref sig .tc := ⟨.hbm, 118, rfl⟩
abbrev main_call2_cst_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_v6 : Ref sig .tc := ⟨.hbm, 124, rfl⟩
abbrev main_call2_v7 : Ref sig .tc := ⟨.hbm, 125, rfl⟩
abbrev main_call2_cst_1 : Ref sig .tc := ⟨.hbm, 126, rfl⟩
abbrev main_call2_v8 : Ref sig .tc := ⟨.hbm, 127, rfl⟩
abbrev main_call2_cst_2 : Ref sig .tc := ⟨.hbm, 128, rfl⟩
abbrev main_call2_v9 : Ref sig .tc := ⟨.hbm, 129, rfl⟩
abbrev main_call2_v10 : Ref sig .tc := ⟨.hbm, 130, rfl⟩
abbrev main_call2_cst_3 : Ref sig .tc := ⟨.hbm, 131, rfl⟩
abbrev main_call2_v11 : Ref sig .tc := ⟨.hbm, 132, rfl⟩
abbrev main_call2_cst_4 : Ref sig .tc := ⟨.hbm, 133, rfl⟩
abbrev main_call2_call0_v0 : Ref sig .tc := ⟨.hbm, 134, rfl⟩
abbrev main_v73 : Ref sig .tc := ⟨.hbm, 135, rfl⟩
abbrev main_cst_15 : Ref sig .tc := ⟨.hbm, 136, rfl⟩
abbrev main_v74 : Ref sig .tc := ⟨.hbm, 137, rfl⟩
abbrev main_cst_16 : Ref sig .tc := ⟨.hbm, 138, rfl⟩
abbrev main_v75 : Ref sig .tc := ⟨.hbm, 139, rfl⟩
abbrev main_v76 : Ref sig .tc := ⟨.hbm, 140, rfl⟩
abbrev main_cst_17 : Ref sig .tc := ⟨.hbm, 141, rfl⟩
abbrev main_v77 : Ref sig .tc := ⟨.hbm, 142, rfl⟩
abbrev main_v78 : Ref sig .tc := ⟨.hbm, 143, rfl⟩
abbrev main_c_18 : Ref sig .tc := ⟨.hbm, 144, rfl⟩
abbrev main_call3_cst : Ref sig .tc := ⟨.hbm, 145, rfl⟩
abbrev main_call3_v0 : Ref sig .tc := ⟨.hbm, 146, rfl⟩
abbrev main_call3_v1 : Ref sig .tc := ⟨.hbm, 147, rfl⟩
abbrev main_call3_cst_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_v6 : Ref sig .tc := ⟨.hbm, 153, rfl⟩
abbrev main_call3_v7 : Ref sig .tc := ⟨.hbm, 154, rfl⟩
abbrev main_call3_cst_1 : Ref sig .tc := ⟨.hbm, 155, rfl⟩
abbrev main_call3_v8 : Ref sig .tc := ⟨.hbm, 156, rfl⟩
abbrev main_call3_cst_2 : Ref sig .tc := ⟨.hbm, 157, rfl⟩
abbrev main_call3_v9 : Ref sig .tc := ⟨.hbm, 158, rfl⟩
abbrev main_call3_v10 : Ref sig .tc := ⟨.hbm, 159, rfl⟩
abbrev main_call3_cst_3 : Ref sig .tc := ⟨.hbm, 160, rfl⟩
abbrev main_call3_v11 : Ref sig .tc := ⟨.hbm, 161, rfl⟩
abbrev main_call3_cst_4 : Ref sig .tc := ⟨.hbm, 162, rfl⟩
abbrev main_call3_call0_v0 : Ref sig .tc := ⟨.hbm, 163, rfl⟩
abbrev main_v79 : Ref sig .tc := ⟨.hbm, 164, rfl⟩
abbrev main_cst_19 : Ref sig .tc := ⟨.hbm, 165, rfl⟩
abbrev main_v80 : Ref sig .tc := ⟨.hbm, 166, rfl⟩
abbrev main_cst_20 : Ref sig .tc := ⟨.hbm, 167, rfl⟩
abbrev main_v81 : Ref sig .tc := ⟨.hbm, 168, rfl⟩
abbrev main_v82 : Ref sig .tc := ⟨.hbm, 169, rfl⟩
abbrev main_cst_21 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_cst_22 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_call5_v0 : Ref sig .tc := ⟨.hbm, 181, rfl⟩
abbrev main_call5_v1_0 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_cst_23 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩

abbrev nD : Nat := 1
abbrev τ : Topo := Topo.v7x

variable {F : FTy → Type} [FloatOps F]
-- ==== Proof.KernelIdeal.Copy.lean ====
/-
  The copying region: the kernel's body as a loop, run over the argument, the result by runs of batch elements, and the
  two staging buffers. One turn of the loop is proved for any element and the loop by induction on its turns; each
  element of the result ends at the argument's words, so the whole result is the argument.
-/
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Ring
public import Idealize.ShloMosaic.Lib.Tactic

@[expose] public section

set_option maxRecDepth 16384

noncomputable section

namespace Cert.KernelIdeal.Copy

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources: the pipeline's rounds beside the counters the transfers draw on. -/
abbrev UU : Type := UR sig nD τ × Counters

local notation "𝕄" => MT nD τ sig Unit (Elt F) ℕ UU ℕ

/-- What memref `M` holds on core `c`, and holding it whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev mx : Memref sig .tc .hbm S32x96x321x16 .f32 := Memref.whole main_arg0
abbrev mo : Memref sig .tc .hbm S32x96x321x16 .f32 := Memref.whole main_v21
abbrev mb0 : Memref sig .tc .vmem S96x321x16 .f32 := Memref.whole cc1_scratch0
abbrev mb1 : Memref sig .tc .vmem S96x321x16 .f32 := Memref.whole cc1_scratch1

/-- One batch element's slab of a whole array. -/
abbrev slab (M : Memref sig .tc .hbm S32x96x321x16 .f32) (r : Fin 4 → ℕ) (h : ∀ a, r a + S1x96x321x16.size a ≤ S32x96x321x16.size a) :
    Memref sig .tc .hbm S96x321x16 .f32 :=
  (M.slice (Rect.unit (s := S32x96x321x16) r S1x96x321x16.size h) (fun _ => rfl)).squeeze S96x321x16 squeezes_S1x96x321x16_S96x321x16

/-- The result's slab at `r`, held at contents `f` of the result. -/
abbrev ho (c : Dev nD) (f : Bf (F := F) c mo) (r : Fin 4 → ℕ) (h : ∀ a, r a + S1x96x321x16.size a ≤ S32x96x321x16.size a) : sProp 𝕄 :=
  (slab mo r h).view.loc (c : Thread nD τ) ↦[(slab mo r h).view.set]{fullShare} f

/-- The argument's words read as contents of the result. -/
abbrev asOut (c : Dev nD) (fx : Bf (F := F) c mx) : Bf (F := F) c mo := fx

/-- The result's slab at `r`, held at the argument's words. -/
abbrev hr (c : Dev nD) (fx : Bf (F := F) c mx) (r : Fin 4 → ℕ) (h : ∀ a, r a + S1x96x321x16.size a ≤ S32x96x321x16.size a) : sProp 𝕄 :=
  ho c (asOut c fx) r h

/-- A slab of the result into which the argument's slab at the same place was written holds the argument's words. -/
theorem landed (c : Dev nD) (fx : Bf (F := F) c mx) (fo : Bf (F := F) c mo) (r : Fin 4 → ℕ)
    (h : ∀ a, r a + S1x96x321x16.size a ≤ S32x96x321x16.size a) (w : S96x321x16.Idx → Elt F .f32)
    (hw : w = (slab mx r h).view.read (Elt F) fx) :
    ho c ((slab mo r h).view.writes (Elt F) fo [⟨Rect.whole S96x321x16, w⟩]) r h ⊢ hr c fx r h := by
  refine Entails.of_eq (pointsTo_congr fun i hi => ?_)
  obtain ⟨y, -, rfl⟩ := Finset.mem_map.1 hi
  subst hw
  have e : (slab mo r h).view.emb y = ((slab mo r h).view.slice (Rect.whole S96x321x16)).emb y :=
    congrArg (slab mo r h).view.emb (Rect.emb_whole_apply S96x321x16 y).symm
  rw [View.writes_singleton, e, View.write_emb_of_mem _ _ (Finset.mem_univ _), ← e]
  rfl

/-- The same with the payload's equation among the premises. -/
theorem landed_of (c : Dev nD) (fx : Bf (F := F) c mx) (fo : Bf (F := F) c mo) (r : Fin 4 → ℕ)
    (h : ∀ a, r a + S1x96x321x16.size a ≤ S32x96x321x16.size a) (w : S96x321x16.Idx → Elt F .f32) :
    iprop(ho c ((slab mo r h).view.writes (Elt F) fo [⟨Rect.whole S96x321x16, w⟩]) r h ∗ ⌜w = (slab mx r h).view.read (Elt F) fx⌝) ⊢ hr c fx r h := by
  iintro ⟨H, %hw⟩
  iapply (landed c fx fo r h w hw)
  iexact H

/-- The four counters at zero. -/
abbrev sems0 (c : Dev nD) : sProp 𝕄 :=
  iprop(semVal ((c : Thread nD τ), SemLoc.dma cc1_scratch2.sem) 0 ∗ semVal ((c : Thread nD τ), SemLoc.dma cc1_scratch3.sem) 0
    ∗ semVal ((c : Thread nD τ), SemLoc.dma cc1_scratch4.sem) 0 ∗ semVal ((c : Thread nD τ), SemLoc.dma cc1_scratch5.sem) 0)

/-- The slab at `r` is on its way into the first buffer. -/
abbrev inFl0 (c : Dev nD) (fx : Bf (F := F) c mx) (r : Fin 4 → ℕ) (h : ∀ a, r a + S1x96x321x16.size a ≤ S32x96x321x16.size a) : sProp 𝕄 :=
  iprop(∃ g, Transfers.Flight countersEmb (c : Thread nD τ) (SemLoc.dma cc1_scratch2.sem) default 493056
      iprop(pt c mb0 g ∗ (mx.view.loc (c : Thread nD τ) ↦[(slab mx r h).view.set]{fullShare} fx))
    ∗ (mx.view.loc (c : Thread nD τ) ↦[Finset.univ \ (slab mx r h).view.set]{fullShare} fx)
    ∗ ⌜mb0.view.read (Elt F) g = (slab mx r h).view.read (Elt F) fx⌝)

/-- The slab at `r` is on its way out of the second buffer. -/
abbrev outFl1 (c : Dev nD) (fx : Bf (F := F) c mx) (fo : Bf (F := F) c mo) (r : Fin 4 → ℕ) (h : ∀ a, r a + S1x96x321x16.size a ≤ S32x96x321x16.size a) : sProp 𝕄 :=
  iprop(∃ g w, Transfers.Flight countersEmb (c : Thread nD τ) (SemLoc.dma cc1_scratch5.sem) default 493056
      iprop(((slab mo r h).view.loc (c : Thread nD τ) ↦[(slab mo r h).view.set]{fullShare} (slab mo r h).view.writes (Elt F) fo [⟨Rect.whole S96x321x16, w⟩])
        ∗ (mb1.view.loc (c : Thread nD τ) ↦[mb1.view.set]{fullShare} g))
    ∗ (mb1.view.loc (c : Thread nD τ) ↦[Finset.univ \ mb1.view.set]{fullShare} g) ∗ ⌜w = (slab mx r h).view.read (Elt F) fx⌝)

/-- A counter at zero. -/
abbrev s0 (c : Dev nD) (s : DmaSems sig S_) : sProp 𝕄 := semVal ((c : Thread nD τ), SemLoc.dma s.sem) 0

/-! ## The kernel as turns of a loop -/

/-- Where batch element `n` starts. -/
abbrev at' (n : ℕ) : Fin 4 → ℕ := ![n, 0, 0, 0]
theorem inb {n : ℕ} (h : n < 32) : ∀ a, at' n a + S1x96x321x16.size a ≤ S32x96x321x16.size a := by
  intro a
  fin_cases a
  · show n + 1 ≤ 32; omega
  · show 0 + 96 ≤ 96; omega
  · show 0 + 321 ≤ 321; omega
  · show 0 + 16 ≤ 16; omega

/-- A kernel's piece. -/
abbrev Piece (F : FTy → Type) : Type 1 := Prog (TpuEff nD τ sig (Elt F) Λ₀ .tc) PUnit

/-- Start fetching element `n` into a buffer, and wait for it; start writing it back, and wait for that. -/
abbrev fetch (b : Memref sig .tc .vmem S96x321x16 .f32) (hb : b.IsWhole) (s : DmaSems sig S_) (n : ℕ) (h : n < 32) : Piece F :=
  Prog.lift (.enqueueDma (slab mx (at' n) (inb h)) (.here b) (.dma s.sem) ((View.wordExact_bits rfl).reshape _ _) hb.wordExact ⟨Or.inl rfl, trivial⟩)
abbrev fetched (b : Memref sig .tc .vmem S96x321x16 .f32) (hb : b.IsWhole) (s : DmaSems sig S_) (n : ℕ) (h : n < 32) : Piece F :=
  Prog.lift (.waitDma2 s.sem (slab mx (at' n) (inb h)) b ((View.wordExact_bits rfl).reshape _ _) hb.wordExact)
abbrev put (b : Memref sig .tc .vmem S96x321x16 .f32) (hb : b.IsWhole) (s : DmaSems sig S_) (n : ℕ) (h : n < 32) : Piece F :=
  Prog.lift (.enqueueDma b (.here (slab mo (at' n) (inb h))) (.dma s.sem) hb.wordExact ((View.wordExact_bits rfl).reshape _ _) ⟨Or.inl rfl, trivial⟩)
abbrev done (b : Memref sig .tc .vmem S96x321x16 .f32) (hb : b.IsWhole) (s : DmaSems sig S_) (n : ℕ) (h : n < 32) : Piece F :=
  Prog.lift (.waitDma2 s.sem b (slab mo (at' n) (inb h)) hb.wordExact ((View.wordExact_bits rfl).reshape _ _))

abbrev w0 : mb0.IsWhole := Memref.isWhole_whole _
abbrev w1 : mb1.IsWhole := Memref.isWhole_whole _

/-- Elements 0 and 1. -/
def opening : Piece F := do
  fetch mb0 w0 cc1_scratch2 0 (by decide)
  fetched mb0 w0 cc1_scratch2 0 (by decide)
  put mb0 w0 cc1_scratch4 0 (by decide)
  fetch mb1 w1 cc1_scratch3 1 (by decide)
  fetched mb1 w1 cc1_scratch3 1 (by decide)
  put mb1 w1 cc1_scratch5 1 (by decide)
  done mb0 w0 cc1_scratch4 0 (by decide)
  fetch mb0 w0 cc1_scratch2 2 (by decide)

/-- Elements `p + 1`, in the first buffer, and `p + 2`, in the second, which still holds element `p`. -/
def turn (p : ℕ) (h : p + 3 < 32) : Piece F := do
  fetched mb0 w0 cc1_scratch2 (p + 1) (by omega)
  put mb0 w0 cc1_scratch4 (p + 1) (by omega)
  done mb1 w1 cc1_scratch5 p (by omega)
  fetch mb1 w1 cc1_scratch3 (p + 2) (by omega)
  fetched mb1 w1 cc1_scratch3 (p + 2) (by omega)
  put mb1 w1 cc1_scratch5 (p + 2) (by omega)
  done mb0 w0 cc1_scratch4 (p + 1) (by omega)
  fetch mb0 w0 cc1_scratch2 (p + 3) h

/-- Elements 30 and 31. -/
def closing : Piece F := do
  fetched mb0 w0 cc1_scratch2 30 (by decide)
  put mb0 w0 cc1_scratch4 30 (by decide)
  done mb1 w1 cc1_scratch5 29 (by decide)
  fetch mb1 w1 cc1_scratch3 31 (by decide)
  fetched mb1 w1 cc1_scratch3 31 (by decide)
  put mb1 w1 cc1_scratch5 31 (by decide)
  done mb0 w0 cc1_scratch4 30 (by decide)
  done mb1 w1 cc1_scratch5 31 (by decide)

/-- `k` turns from `p` on. -/
def turns : (k p : ℕ) → p + 2 * k + 1 ≤ 30 → Piece F
  | 0, _, _ => pure ⟨⟩
  | k + 1, p, h => do
    turn p (by omega)
    turns k (p + 2) (by omega)

/-! ## The result by runs of batch elements -/

/-- The indices of the batch elements from `a` up to `b`. -/
def rowSet (a b : ℕ) : Finset S32x96x321x16.Idx := Finset.univ.filter fun y => a ≤ (y 0).val ∧ (y 0).val < b

theorem mem_rowSet (a b : ℕ) (y : S32x96x321x16.Idx) : y ∈ rowSet a b ↔ a ≤ (y 0).val ∧ (y 0).val < b := by
  simp only [rowSet, Finset.mem_filter, Finset.mem_univ, true_and]

theorem mem_slab {n : ℕ} (h : n < 32) (y : S32x96x321x16.Idx) : y ∈ (slab mo (at' n) (inb h)).view.set ↔ (y 0).val = n := by
  rw [show (slab mo (at' n) (inb h)).view.set = (Rect.unit (s := S32x96x321x16) (at' n) S1x96x321x16.size (inb h)).set from
    (View.set_reshape _ _).trans (View.set_slice_whole _ _), Rect.mem_set_unit]
  have h1 : (y 1).val < 96 := (y 1).isLt
  have h2 : (y 2).val < 321 := (y 2).isLt
  have h3 : (y 3).val < 16 := (y 3).isLt
  constructor
  · intro H; have a0 : n ≤ (y 0).val ∧ (y 0).val < n + 1 := H 0; omega
  · intro H i; fin_cases i
    · show n ≤ (y 0).val ∧ (y 0).val < n + 1; omega
    · show 0 ≤ (y 1).val ∧ (y 1).val < 0 + 96; omega
    · show 0 ≤ (y 2).val ∧ (y 2).val < 0 + 321; omega
    · show 0 ≤ (y 3).val ∧ (y 3).val < 0 + 16; omega

/-- The result's elements from `a` up to `b`, held at contents `f`. -/
abbrev rows (c : Dev nD) (f : Bf (F := F) c mo) (a b : ℕ) : sProp 𝕄 := mo.view.loc (c : Thread nD τ) ↦[rowSet a b]{fullShare} f

/-- All of them are the result. -/
theorem rows_all (c : Dev nD) (f : Bf (F := F) c mo) : pt c mo f = rows c f 0 32 :=
  congrArg (fun S => (mo.view.loc (c : Thread nD τ) ↦[S]{fullShare} f : sProp 𝕄))
    (Finset.ext fun y => by have := (y 0).isLt; rw [mem_rowSet]; simp only [Finset.mem_univ, true_iff]; exact ⟨Nat.zero_le _, this⟩)

/-- A set that parts into two parts what is held on it. -/
theorem pt_parts (c : Dev nD) (f : Bf (F := F) c mo) {A S T : Finset (Idx (mo.view.loc (c : Thread nD τ)))} (e : A = S ∪ T)
    (d : Disjoint S T) : (mo.view.loc (c : Thread nD τ) ↦[A]{fullShare} f : sProp 𝕄)
      = iprop((mo.view.loc (c : Thread nD τ) ↦[S]{fullShare} f) ∗ mo.view.loc (c : Thread nD τ) ↦[T]{fullShare} f) := by
  subst e
  have u : (mo.view.loc (c : Thread nD τ) ↦[S ∪ T]{fullShare} f : sProp 𝕄)
      ⊣⊢ iprop((mo.view.loc (c : Thread nD τ) ↦[S]{fullShare} f) ∗ mo.view.loc (c : Thread nD τ) ↦[T]{fullShare} f) := pointsTo_union d
  exact BI.equiv_iff.mp ⟨u.1, u.2⟩

/-- A run is its first element and the others. -/
theorem rows_head (c : Dev nD) (f : Bf (F := F) c mo) {a b : ℕ} (h : a < 32) (hab : a < b) :
    rows c f a b = iprop(ho c f (at' a) (inb h) ∗ rows c f (a + 1) b) := by
  refine pt_parts c f (Finset.ext fun y => ?_) (Finset.disjoint_left.2 fun y hy hy' => ?_)
  · refine (mem_rowSet a b y).trans (Iff.trans ?_ (Finset.mem_union.trans (or_congr (mem_slab h y) (mem_rowSet (a + 1) b y))).symm)
    omega
  · have e := (mem_slab h y).1 hy; have e' := (mem_rowSet (a + 1) b y).1 hy'; omega

/-- A run is its last element and the others. -/
theorem rows_last (c : Dev nD) (f : Bf (F := F) c mo) {a b : ℕ} (h : b < 32) (hab : a ≤ b) :
    rows c f a (b + 1) = iprop(ho c f (at' b) (inb h) ∗ rows c f a b) := by
  refine pt_parts c f (Finset.ext fun y => ?_) (Finset.disjoint_left.2 fun y hy hy' => ?_)
  · refine (mem_rowSet a (b + 1) y).trans (Iff.trans ?_ (Finset.mem_union.trans (or_congr (mem_slab h y) (mem_rowSet a b y))).symm)
    omega
  · have e := (mem_slab h y).1 hy; have e' := (mem_rowSet a b y).1 hy'; omega

theorem rows_none (c : Dev nD) (f : Bf (F := F) c mo) (a : ℕ) : rows c f a a = (iprop(emp) : sProp 𝕄) := by
  have e : rowSet a a = ∅ := Finset.ext fun y => by rw [mem_rowSet]; simp only [Finset.notMem_empty, iff_false]; omega
  rw [show rows c f a a = _ from congrArg (fun S => (mo.view.loc (c : Thread nD τ) ↦[S]{fullShare} f : sProp 𝕄)) e]
  exact pointsTo_empty

/-! ## The loop -/

/-- Between two turns: element `p + 1` is on its way in, `p` on its way out, those before `p` have arrived. -/
def Inv (c : Dev nD) (fx : Bf (F := F) c mx) (fo : Bf (F := F) c mo) (p : ℕ) (h : p + 1 < 32) : sProp 𝕄 :=
  iprop(inFl0 c fx (at' (p + 1)) (inb h) ∗ s0 c cc1_scratch4 ∗ s0 c cc1_scratch3 ∗ outFl1 c fx fo (at' p) (inb (by omega))
    ∗ rows c (asOut c fx) 0 p ∗ rows c fo (p + 1) 32 ∗ ∃ W, owes (c : Thread nD τ) 0 W)

set_option maxHeartbeats 1000000 in
theorem turn_run (c : Dev nD) (fx : Bf (F := F) c mx) (fo : Bf (F := F) c mo) (p : ℕ) (h : p + 3 < 32) (Q : PUnit → sProp 𝕄) :
    iprop(Inv c fx fo p (by omega) ∗ (Inv c fx fo (p + 2) h -∗ Q ⟨⟩))
    ⊢ wp frame (wpE (defs₀ (F := F)) Variants.none c none) Set.univ (turn p h) Q := by
  unfold Inv turn
  rw [rows_head c fo (a := p + 1) (by omega) (by omega), rows_head c fo (a := p + 1 + 1) (by omega) (by omega),
    rows_last c (asOut c fx) (a := 0) (b := p + 1) (by omega) (by omega), rows_last c (asOut c fx) (a := 0) (b := p) (by omega) (by omega)]
  iintro ⟨⟨⟨%g0, Hi0, Hx, %h0⟩, Hu0, Hi1, ⟨%g1, %w1, Hu1, Hb1, %h1⟩, Hd, ⟨Ho0, Ho1, Hr⟩, ⟨%W, HO⟩⟩, Hk⟩
  sl_exec!
  sl_step
  iapply Hk
  isplitl [Hi0 Hx]
  · iexists _; isplitl [Hi0]; · iexact Hi0
    isplitl [Hx]; · iexact Hx
    ipureintro; exact View.read_write_univ _ _
  isplitl [Hu0]
  · iexact Hu0
  isplitl [Hi1]
  · iexact Hi1
  isplitl [Hu1 Hb1]
  · iexists _, _; isplitl [Hu1]; · iexact Hu1
    isplitl [Hb1]; · iexact Hb1
    ipureintro; exact View.read_write_univ _ _
  isplitl [Ho0 Hu1_dst Hd]
  · isplitl [Ho0]
    · iapply (landed_of c fx fo (at' (p + 1)) (inb (by omega)) _); isplitl [Ho0]; · iexact Ho0
      ipureintro; exact h0
    isplitl [Hu1_dst]
    · iapply (landed_of c fx fo (at' p) (inb (by omega)) _); isplitl [Hu1_dst]; · iexact Hu1_dst
      ipureintro; exact h1
    iexact Hd
  isplitl [Hr]
  · iexact Hr
  iexists _; iexact HO

set_option maxHeartbeats 1000000 in
theorem opening_run (c : Dev nD) (fx : Bf (F := F) c mx) (fo : Bf (F := F) c mo) (g0 : Bf (F := F) c mb0) (g1 : Bf (F := F) c mb1)
    (W : Waits sig Unit) (Q : PUnit → sProp 𝕄) :
    iprop(pt c mx fx ∗ pt c mo fo ∗ pt c mb0 g0 ∗ pt c mb1 g1 ∗ sems0 c ∗ owes (c : Thread nD τ) 0 W
      ∗ (Inv c fx fo 1 (by decide) -∗ Q ⟨⟩))
    ⊢ wp frame (wpE (defs₀ (F := F)) Variants.none c none) Set.univ opening Q := by
  unfold Inv opening
  rw [rows_all, rows_head c fo (a := 0) (by decide) (by decide), rows_head c fo (a := 0 + 1) (by decide) (by decide),
    rows_last c (asOut c fx) (a := 0) (b := 0) (by decide) (by decide), rows_none]
  iintro ⟨Hx, ⟨Ho0, Ho1, Hr⟩, Hb0, Hb1, ⟨Hi0, Hi1, Hu0, Hu1⟩, HO, Hk⟩
  sl_exec!
  sl_step
  iapply Hk
  isplitl [Hi0 Hx]
  · iexists _; isplitl [Hi0]; · iexact Hi0
    isplitl [Hx]; · iexact Hx
    ipureintro; exact View.read_write_univ _ _
  isplitl [Hu0]
  · iexact Hu0
  isplitl [Hi1]
  · iexact Hi1
  isplitl [Hu1 Hb1]
  · iexists _, _; isplitl [Hu1]; · iexact Hu1
    isplitl [Hb1]; · iexact Hb1
    ipureintro; exact View.read_write_univ _ _
  isplitl [Ho0]
  · isplitl [Ho0]
    · iapply (landed_of c fx fo (at' 0) (inb (by decide)) _); isplitl [Ho0]; · iexact Ho0
      ipureintro; exact View.read_write_univ _ _
    iempintro
  isplitl [Hr]
  · iexact Hr
  iexists _; iexact HO

set_option maxHeartbeats 1000000 in
theorem closing_run (c : Dev nD) (fx : Bf (F := F) c mx) (fo : Bf (F := F) c mo) (Q : PUnit → sProp 𝕄) :
    iprop(Inv c fx fo 29 (by decide)
      ∗ (iprop(pt c mx fx ∗ pt c mo (asOut c fx) ∗ (∃ g, pt c mb0 g) ∗ (∃ g, pt c mb1 g) ∗ sems0 c ∗ ∃ W, owes (c : Thread nD τ) 0 W) -∗ Q ⟨⟩))
    ⊢ wp frame (wpE (defs₀ (F := F)) Variants.none c none) Set.univ closing Q := by
  unfold Inv closing
  rw [rows_all, rows_head c fo (a := 29 + 1) (by decide) (by decide), rows_head c fo (a := 29 + 1 + 1) (by decide) (by decide), rows_none,
    rows_last c (asOut c fx) (a := 0) (b := 31) (by decide) (by decide), rows_last c (asOut c fx) (a := 0) (b := 30) (by decide) (by decide),
    rows_last c (asOut c fx) (a := 0) (b := 29) (by decide) (by decide)]
  iintro ⟨⟨⟨%g0, Hi0, Hx, %h0⟩, Hu0, Hi1, ⟨%g1, %w1, Hu1, Hb1, %h1⟩, Hd, ⟨Ho0, Ho1, -⟩, ⟨%W, HO⟩⟩, Hk⟩
  sl_exec!
  sl_step
  iapply Hk
  isplitl [Hx]; · iexact Hx
  isplitl [Ho1 Ho0 Hu1_dst Hd]
  · isplitl [Ho1]
    · iapply (landed_of c fx fo (at' 31) (inb (by decide)) _); isplitl [Ho1]; · iexact Ho1
      ipureintro; exact View.read_write_univ _ _
    isplitl [Ho0]
    · iapply (landed_of c fx fo (at' 30) (inb (by decide)) _); isplitl [Ho0]; · iexact Ho0
      ipureintro; exact h0
    isplitl [Hu1_dst]
    · iapply (landed_of c fx fo (at' 29) (inb (by decide)) _); isplitl [Hu1_dst]; · iexact Hu1_dst
      ipureintro; exact h1
    iexact Hd
  isplitl [Hi0_dst]; · iexists _; iexact Hi0_dst
  isplitl [Hb1]; · iexists _; iexact Hb1
  isplitl [Hi0 Hi1 Hu0 Hu1]
  · isplitl [Hi0]; · iexact Hi0
    isplitl [Hi1]; · iexact Hi1
    isplitl [Hu0]; · iexact Hu0
    iexact Hu1
  iexists _; iexact HO

/-- The turns, by induction on their number. -/
theorem turns_run (c : Dev nD) (fx : Bf (F := F) c mx) (fo : Bf (F := F) c mo) : ∀ (k p q : ℕ) (e : q = p + 2 * k) (h : p + 2 * k + 1 ≤ 30) (Q : PUnit → sProp 𝕄),
    iprop(Inv c fx fo p (by omega) ∗ (Inv c fx fo q (by omega) -∗ Q ⟨⟩))
    ⊢ wp frame (wpE (defs₀ (F := F)) Variants.none c none) Set.univ (turns k p h) Q
  | 0, p, q, e, h, Q => by
    obtain rfl : q = p := e
    unfold turns
    iintro ⟨HI, Hk⟩
    sl_step
    iapply Hk
    iexact HI
  | k + 1, p, q, e, h, Q => by
    unfold turns
    rw [wp_bind]
    iintro ⟨HI, Hk⟩
    iapply (turn_run c fx fo p _ _)
    isplitl [HI]; · iexact HI
    iintro HI
    iapply (turns_run c fx fo k (p + 2) q (by omega) _ Q)
    isplitl [HI]; · iexact HI
    iexact Hk

set_option maxHeartbeats 1000000 in
/-- The kernel is the first two elements, fourteen turns, and the last two elements. -/
theorem copy_eq : cc1__copy_kernel (F := F) mx (Memref.isWhole_whole _) mo (Memref.isWhole_whole _) mb0 (Memref.isWhole_whole _) mb1 (Memref.isWhole_whole _) cc1_scratch2 cc1_scratch3 cc1_scratch4 cc1_scratch5
    = (do opening; turns 14 1 (by decide); closing : Piece F) := rfl

/-- The body from the argument, the result, the two buffers, the counters at zero and the core's dues: it ends
with the argument's elements in the result. -/
theorem copyRun (c : Dev nD) (fx : Bf (F := F) c mx) (fo : Bf (F := F) c mo) (g0 : Bf (F := F) c mb0) (g1 : Bf (F := F) c mb1)
    (W : Waits sig Unit) (Q : PUnit → sProp 𝕄) :
    iprop(pt c mx fx ∗ pt c mo fo ∗ pt c mb0 g0 ∗ pt c mb1 g1 ∗ sems0 c ∗ owes (c : Thread nD τ) 0 W
      ∗ (iprop(pt c mx fx ∗ pt c mo (asOut c fx) ∗ (∃ g, pt c mb0 g) ∗ (∃ g, pt c mb1 g) ∗ sems0 c ∗ ∃ W, owes (c : Thread nD τ) 0 W) -∗ Q ⟨⟩))
    ⊢ wp frame (wpE (defs₀ (F := F)) Variants.none c none) Set.univ (cc1__copy_kernel mx (Memref.isWhole_whole _) mo (Memref.isWhole_whole _) mb0 (Memref.isWhole_whole _) mb1 (Memref.isWhole_whole _) cc1_scratch2 cc1_scratch3 cc1_scratch4 cc1_scratch5) Q := by
  rw [copy_eq, wp_bind]
  iintro ⟨Hx, Ho, HB0, HB1, Hs, HO, Hk⟩
  iapply (opening_run c fx fo g0 g1 W _)
  isplitl [Hx]; · iexact Hx
  isplitl [Ho]; · iexact Ho
  isplitl [HB0]; · iexact HB0
  isplitl [HB1]; · iexact HB1
  isplitl [Hs]; · iexact Hs
  isplitl [HO]; · iexact HO
  iintro HI
  rw [wp_bind]
  iapply (turns_run c fx fo 14 1 29 rfl _ _)
  isplitl [HI]; · iexact HI
  iintro HI
  iapply (closing_run c fx fo Q)
  isplitl [HI]; · iexact HI
  iexact Hk

end Cert.KernelIdeal.Copy

end
-- ==== Proof.KernelIdeal.Gate.lean ====
/-
  The gating region: the kernel's body run over its twelve staged arrays, and its proof data. The body reads ten arrays
  whole and writes the two results once each; the run carries what it leaves in them as a witness.
-/
module

public import proofs.«01_k».proof.Proof.KernelIdeal.Copy

@[expose] public section

set_option maxRecDepth 16384

noncomputable section

namespace Cert.KernelIdeal.Gate

open Cert.KernelIdeal Cert.KernelIdeal.Gen
open Cert.KernelIdeal.Copy (UU Bf pt)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

set_option maxHeartbeats 4000000 in
/-- What the body leaves in the two results' staging buffers, with the proof that from the twelve buffers held whole it
    runs to its return handing back the ten inputs as they were and the results at the witness. -/
noncomputable def gateRun (c : Dev nD) (M0 : Memref sig .tc .vmem S10272x96 .f32) (h0 : M0.IsWhole) (M1 : Memref sig .tc .vmem S32x10272 .f32) (h1 : M1.IsWhole) (M2 : Memref sig .tc .vmem S96x96 .f32) (h2 : M2.IsWhole) (M3 : Memref sig .tc .vmem S96x47 .f32) (h3 : M3.IsWhole) (M4 : Memref sig .tc .vmem S96x47 .f32) (h4 : M4.IsWhole) (M5 : Memref sig .tc .vmem S47x96 .f32) (h5 : M5.IsWhole) (M6 : Memref sig .tc .vmem S47x96 .f32) (h6 : M6.IsWhole) (M7 : Memref sig .tc .vmem S96x4 .f32) (h7 : M7.IsWhole) (M8 : Memref sig .tc .vmem S1x4 .f32) (h8 : M8.IsWhole) (M9 : Memref sig .tc .vmem S1x1 .f32) (h9 : M9.IsWhole) (M10 : Memref sig .tc .vmem S32x1 .f32) (h10 : M10.IsWhole) (M11 : Memref sig .tc .vmem S1x1 .f32) (h11 : M11.IsWhole) (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) :
    { W : Bf (F := F) c M10 × Bf (F := F) c M11 // ∀ (f10 : Bf (F := F) c M10) (f11 : Bf (F := F) c M11) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 W.1 ∗ pt c M11 W.2) -∗ Q ⟨⟩))
          ⊢ wp frame (wpE (defs₀ (F := F)) Variants.none c none) E (cc0__gate_kernel M0 h0 M1 h1 M2 h2 M3 h3 M4 h4 M5 h5 M6 h6 M7 h7 M8 h8 M9 h9 M10 h10 M11 h11) Q } := by
  refine ⟨(?_, ?_), fun f10 f11 E Q => ?run⟩
  case run =>
    iintro ⟨H0, H1, H2, H3, H4, H5, H6, H7, H8, H9, H10, H11, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

variable (V : (c : Dev nD) → (b : Ref sig .tc) → Buf (Elt F) ((c : Thread nD τ).loc b))

/-! ### The fetched blocks: each array at the entry contents, read through its window. -/
abbrev stg0 (c : Dev nD) : (cfg0.win 0).block.Idx → Elt F (cfg0.win 0).elt :=
  ((cfg0.win 0).blk t0_0).view.read (Elt F) (V c main_v3)
abbrev stg1 (c : Dev nD) : (cfg0.win 1).block.Idx → Elt F (cfg0.win 1).elt :=
  ((cfg0.win 1).blk t0_0).view.read (Elt F) (V c main_v16)
abbrev stg2 (c : Dev nD) : (cfg0.win 2).block.Idx → Elt F (cfg0.win 2).elt :=
  ((cfg0.win 2).blk t0_0).view.read (Elt F) (V c main_cst)
abbrev stg3 (c : Dev nD) : (cfg0.win 3).block.Idx → Elt F (cfg0.win 3).elt :=
  ((cfg0.win 3).blk t0_0).view.read (Elt F) (V c main_cst_0)
abbrev stg4 (c : Dev nD) : (cfg0.win 4).block.Idx → Elt F (cfg0.win 4).elt :=
  ((cfg0.win 4).blk t0_0).view.read (Elt F) (V c main_cst_1)
abbrev stg5 (c : Dev nD) : (cfg0.win 5).block.Idx → Elt F (cfg0.win 5).elt :=
  ((cfg0.win 5).blk t0_0).view.read (Elt F) (V c main_cst_2)
abbrev stg6 (c : Dev nD) : (cfg0.win 6).block.Idx → Elt F (cfg0.win 6).elt :=
  ((cfg0.win 6).blk t0_0).view.read (Elt F) (V c main_cst_3)
abbrev stg7 (c : Dev nD) : (cfg0.win 7).block.Idx → Elt F (cfg0.win 7).elt :=
  ((cfg0.win 7).blk t0_0).view.read (Elt F) (V c main_v17)
abbrev stg8 (c : Dev nD) : (cfg0.win 8).block.Idx → Elt F (cfg0.win 8).elt :=
  ((cfg0.win 8).blk t0_0).view.read (Elt F) (V c main_v18)
abbrev stg9 (c : Dev nD) : (cfg0.win 9).block.Idx → Elt F (cfg0.win 9).elt :=
  ((cfg0.win 9).blk t0_0).view.read (Elt F) (V c main_v19)

/-- The run at the staged blocks. -/
abbrev K (c : Dev nD) := gateRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0) (stg0 V c) (stg1 V c) (stg2 V c) (stg3 V c) (stg4 V c) (stg5 V c) (stg6 V c) (stg7 V c) (stg8 V c) (stg9 V c)

/-- The invariant between the region's ends: the scoped buffers the pipeline does not stage. -/
abbrev Φc (c : Dev nD) : sProp 𝕄 := Pipeline.scopedRest (Ix := Unit) (Name := ℕ) (U := UU) (Lvl := ℕ) (Val := Elt F) spec0 c

/-- The proof data from contents `V`: the arrays at `V`; after the body the inputs as fetched and the results at the
    run's witness; nothing owed; full shares. -/
def dat (c : Dev nD) : Dat τ (Elt F) Unit ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => stg7 V c
    | ⟨8, _⟩ => stg8 V c
    | ⟨9, _⟩ => stg9 V c
    | ⟨10, _⟩ => (K V c).1.1
    | ⟨11, _⟩ => (K V c).1.2
  Φ _ := Φc c
  q _ := fullShare
  owed _ := 0

theorem before_0 (c : Dev nD) (d : (cfg0.win 0).block.Idx → Elt F (cfg0.win 0).elt) : (dat V c).before 0 t0_0 d = stg0 V c := by
  unfold Dat.before; rw [if_pos (by decide)]; rfl
theorem before_1 (c : Dev nD) (d : (cfg0.win 1).block.Idx → Elt F (cfg0.win 1).elt) : (dat V c).before 1 t0_0 d = stg1 V c := by
  unfold Dat.before; rw [if_pos (by decide)]; rfl
theorem before_2 (c : Dev nD) (d : (cfg0.win 2).block.Idx → Elt F (cfg0.win 2).elt) : (dat V c).before 2 t0_0 d = stg2 V c := by
  unfold Dat.before; rw [if_pos (by decide)]; rfl
theorem before_3 (c : Dev nD) (d : (cfg0.win 3).block.Idx → Elt F (cfg0.win 3).elt) : (dat V c).before 3 t0_0 d = stg3 V c := by
  unfold Dat.before; rw [if_pos (by decide)]; rfl
theorem before_4 (c : Dev nD) (d : (cfg0.win 4).block.Idx → Elt F (cfg0.win 4).elt) : (dat V c).before 4 t0_0 d = stg4 V c := by
  unfold Dat.before; rw [if_pos (by decide)]; rfl
theorem before_5 (c : Dev nD) (d : (cfg0.win 5).block.Idx → Elt F (cfg0.win 5).elt) : (dat V c).before 5 t0_0 d = stg5 V c := by
  unfold Dat.before; rw [if_pos (by decide)]; rfl
theorem before_6 (c : Dev nD) (d : (cfg0.win 6).block.Idx → Elt F (cfg0.win 6).elt) : (dat V c).before 6 t0_0 d = stg6 V c := by
  unfold Dat.before; rw [if_pos (by decide)]; rfl
theorem before_7 (c : Dev nD) (d : (cfg0.win 7).block.Idx → Elt F (cfg0.win 7).elt) : (dat V c).before 7 t0_0 d = stg7 V c := by
  unfold Dat.before; rw [if_pos (by decide)]; rfl
theorem before_8 (c : Dev nD) (d : (cfg0.win 8).block.Idx → Elt F (cfg0.win 8).elt) : (dat V c).before 8 t0_0 d = stg8 V c := by
  unfold Dat.before; rw [if_pos (by decide)]; rfl
theorem before_9 (c : Dev nD) (d : (cfg0.win 9).block.Idx → Elt F (cfg0.win 9).elt) : (dat V c).before 9 t0_0 d = stg9 V c := by
  unfold Dat.before; rw [if_pos (by decide)]; rfl

/-- The body obligation: the staging buffers and the invariant taken apart, the run applied, its post reassembled. -/
theorem body_obligation (c : Dev nD) : BodyObligation (dat V c) (defs₀ (F := F)) Variants.none () Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt () t0_0.succ = (dat V c).owesAt () t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, -, H10⟩, ⟨%d11, %f11, -, H11⟩⟩
  rw [before_0] at hf0; subst hf0
  rw [before_1] at hf1; subst hf1
  rw [before_2] at hf2; subst hf2
  rw [before_3] at hf3; subst hf3
  rw [before_4] at hf4; subst hf4
  rw [before_5] at hf5; subst hf5
  rw [before_6] at hf6; subst hf6
  rw [before_7] at hf7; subst hf7
  rw [before_8] at hf8; subst hf8
  rw [before_9] at hf9; subst hf9
  iapply ((K V c).2 f10 f11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  isplitl [H9]; · iexists _; isplitr; swap; (· iexact H9); ipureintro; dsimp only [dat]
  isplitl [H10]; · iexists _; isplitr; swap; (· iexact H10); ipureintro; dsimp only [dat]
  iexists _; isplitr; swap; (· iexact H11); ipureintro; dsimp only [dat]

/-- The two results after the region: the write-backs of the run's witness. -/
def out10 (c : Dev nD) : Buf (Elt F) ((c : Thread nD τ).loc main_v20_0) := (dat V c).arrAt 10 cfg0.N
def out11 (c : Dev nD) : Buf (Elt F) ((c : Thread nD τ).loc main_v20_1) := (dat V c).arrAt 11 cfg0.N

end Cert.KernelIdeal.Gate

end
-- ==== Proof.KernelIdeal.Regs.lean ====
/-
  The two regions as segments over the unscoped buffers, and the whole program's run: from any memory with zero
  counters every execution ends with the copied result equal to the argument, the loss read off the gating region's
  result, the arguments as launched and every counter at zero.
-/
module

public import proofs.«01_k».proof.Proof.KernelIdeal.Gate
public import proofs.«01_k».proof.Proof.Gen.KernelIdeal.Regions

@[expose] public section

set_option maxRecDepth 16384

noncomputable section

namespace Cert.KernelIdeal.Regs

open Cert.KernelIdeal Cert.KernelIdeal.Gen
open Cert.KernelIdeal.Copy (UU Bf pt mx mo mb0 mb1 sems0 asOut)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none
/-- No core owes another anything: no level is assigned. -/
abbrev L : GSem nD τ sig → Finset Unit := fun _ => ∅
abbrev lv : GSem nD τ sig → Unit → ℕ := fun _ _ => 0

/-- The rounds' part of the resources. -/
abbrev EP : Emb (URounds (GSem nD τ sig) Unit) 𝕄 := embL

/-! ## The copying region's proof data -/

/-- The copying kernel's own counters. -/
abbrev osem : Fin 4 → SemLoc sig := ![SemLoc.dma cc1_scratch2.sem, SemLoc.dma cc1_scratch3.sem, SemLoc.dma cc1_scratch4.sem, SemLoc.dma cc1_scratch5.sem]

theorem ownSemFacts : Pipeline.OwnSemFacts cfg1.spec osem := by decide

theorem ownSems0_eq (c : Dev nD) :
    (Pipeline.ownSems0 (Ix := Unit) (Name := ℕ) (U := UU) (Lvl := ℕ) (Val := Elt F) (τ := τ) osem c : sProp 𝕄) = sems0 c :=
  Pipeline.ownSems0_eq_of_list c osem [0, 1, 2, 3] (by decide) (by decide)

section Copy

variable (V : (c : Dev nD) → (b : Ref sig .tc) → Buf (Elt F) ((c : Thread nD τ).loc b))

/-- The invariant before the body and after it. -/
def Φ0 (c : Dev nD) : sProp 𝕄 :=
  iprop(pt c mx (V c main_arg0) ∗ pt c mo (V c main_v21) ∗ sems0 c
    ∗ Pipeline.scopedRest (Ix := Unit) (Name := ℕ) (U := UU) (Lvl := ℕ) (Val := Elt F) cfg1.spec c)
def Φ1 (c : Dev nD) : sProp 𝕄 :=
  iprop(pt c mx (V c main_arg0) ∗ pt c mo (asOut c (V c main_arg0)) ∗ sems0 c
    ∗ Pipeline.scopedRest (Ix := Unit) (Name := ℕ) (U := UU) (Lvl := ℕ) (Val := Elt F) cfg1.spec c)

/-- The proof data: no staged array; the invariant at the two ends; nothing owed. -/
def cdat (c : Dev nD) : Dat τ (Elt F) Unit ℕ UU ℕ cfg1 c where
  A w := w.elim0
  after w _ := w.elim0
  Φ t := if t.val = 0 then Φ0 V c else Φ1 V c
  q _ := fullShare
  owed _ := 0

theorem copy_obligation (c : Dev nD) : BodyObligation (cdat V c) (defs₀ (F := F)) 𝒱₀ () Set.univ := fun t => by
  obtain rfl := fin_N1 t
  rw [show (Finset.univ : Finset (Fin cfg1.W)) = ∅ from rfl, BI.bigSep_empty, BI.bigSep_empty]
  rw [show (cdat V c).Φ t1_0.castSucc = Φ0 V c from rfl, show (cdat V c).Φ t1_0.succ = Φ1 V c from rfl]
  unfold Φ0 Φ1 Dat.owesAt Pipeline.owesWithin
  rw [scopedRest1_eq]
  rw [show (cdat V c).owed t1_0.castSucc = 0 from rfl, show (cdat V c).owed t1_0.succ = 0 from rfl]
  iintro ⟨⟨Hx, Ho, Hs, R0, R1, R2, R3, R4, R5, R6, R7, R8, R9, R10, R11, ⟨%g0, HB0⟩, ⟨%g1, HB1⟩⟩, ⟨%W, %hW, HO⟩, -⟩
  iapply (Copy.copyRun c (V c main_arg0) (V c main_v21) g0 g1 W)
  isplitl [Hx]; · iexact Hx
  isplitl [Ho]; · iexact Ho
  isplitl [HB0]; · iexact HB0
  isplitl [HB1]; · iexact HB1
  isplitl [Hs]; · iexact Hs
  isplitl [HO]; · iexact HO
  iintro ⟨Hx, Ho, HB0, HB1, Hs, ⟨%W', HO⟩⟩
  isplitr [HO]
  · isplitl [Hx]; · iexact Hx
    isplitl [Ho]; · iexact Ho
    isplitl [Hs]; · iexact Hs
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HB0]; · iexact HB0
    iexact HB1
  isplitl [HO]
  · iexists W'; isplitr; · ipureintro; exact fun _ _ => Or.inl trivial
    iexact HO
  iempintro

end Copy

/-! ## The regions -/

variable (V V' Vp : (c : Dev nD) → Valuation τ sig (Elt F))

/-- The proof data of both regions, each at its own entry contents. -/
def pdats : (p : Fin 2) → (c : Dev nD) → Dat τ (Elt F) Unit ℕ UU ℕ (cfgs p) c
  | ⟨0, _⟩ => fun c => Gate.dat (fun c b => V c b) c
  | ⟨1, _⟩ => fun c => cdat (fun c b => V' c b) c

/-- What rides beside the buffers: the core's dues, none. -/
abbrev R (c : Dev nD) : sProp 𝕄 := iprop(∃ W, owes (c : Thread nD τ) (0 : CellTallies nD τ sig Unit) W)

set_option backward.isDefEq.respectTransparency.types false in
/-- The gating region: entered with every unscoped buffer at `V`, left with them at `Vp`, which differs in the two results. -/
def reg0 (hVp_10 : ∀ c, Vp c main_v20_0 = Gate.out10 (fun c b => V c b) c) (hVp_11 : ∀ c, Vp c main_v20_1 = Gate.out11 (fun c b => V c b) c)
    (hVp_ne : ∀ c (b : Ref sig .tc), b ≠ main_v20_0 → b ≠ main_v20_1 → Vp c b = V c b) :
    Pipeline.RegionSeg (pcfgs (F := F)) adm (pdats V V') () defs₀ 𝒱₀ L lv 0 where
  win := launch0.win.to₀
  block_pos := launch0.block_pos
  stage_whole := launch0.stage_whole
  K := PEmpty
  osem k := k.elim
  ho := Pipeline.OwnSemFacts.none _
  hbody c := (Gate.body_obligation (fun c b => V c b) c).loose
  hwaits := Pipeline.hwaits_of_owed_zero _ _ _ _ L lv 0 fun _ _ => rfl
  pre c := iprop(unscopedBufs c (fun b => V c b) ∗ R c)
  post c := iprop(unscopedBufs c (fun b => Vp c b) ∗ R c)
  X _ := BI.emp
  Y _ := BI.emp
  Z c := Pipeline.unscopedRest (Ix := Unit) (Name := ℕ) (U := UU) (Lvl := ℕ) spec0 c (fun b => V c b)
  hentry c := by
    rw [Pipeline.ownSems0_none]
    have hsplit := Pipeline.arrays_of_unscopedBufs (p := 0) (pcfgs (F := F)) adm (pdats V V') launch0.win launch0.arr_whole c
      ((pdats V V' 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 0 c).Φ 0 = Gate.Φc c from rfl]
    iintro ⟨-, -, Hr⟩; iexact Hr
  hout c := by
    rw [Pipeline.ownSems0_none, show (pdats V V' 0 c).Φ (Fin.last _) = Gate.Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V V') ((pdats V V' 0 c).share_full fun _ => rfl) (fun b => V c b) (fun b => Vp c b) ((pdats V V' 0 c).arrAt · cfg0.N)
      (fun w => by
        fin_cases w
        · exact ((pdats V V' 0 c).arrAt_in 0 rfl _).trans (hVp_ne c main_v3 (by decide) (by decide)).symm
        · exact ((pdats V V' 0 c).arrAt_in 1 rfl _).trans (hVp_ne c main_v16 (by decide) (by decide)).symm
        · exact ((pdats V V' 0 c).arrAt_in 2 rfl _).trans (hVp_ne c main_cst (by decide) (by decide)).symm
        · exact ((pdats V V' 0 c).arrAt_in 3 rfl _).trans (hVp_ne c main_cst_0 (by decide) (by decide)).symm
        · exact ((pdats V V' 0 c).arrAt_in 4 rfl _).trans (hVp_ne c main_cst_1 (by decide) (by decide)).symm
        · exact ((pdats V V' 0 c).arrAt_in 5 rfl _).trans (hVp_ne c main_cst_2 (by decide) (by decide)).symm
        · exact ((pdats V V' 0 c).arrAt_in 6 rfl _).trans (hVp_ne c main_cst_3 (by decide) (by decide)).symm
        · exact ((pdats V V' 0 c).arrAt_in 7 rfl _).trans (hVp_ne c main_v17 (by decide) (by decide)).symm
        · exact ((pdats V V' 0 c).arrAt_in 8 rfl _).trans (hVp_ne c main_v18 (by decide) (by decide)).symm
        · exact ((pdats V V' 0 c).arrAt_in 9 rfl _).trans (hVp_ne c main_v19 (by decide) (by decide)).symm
        · exact (hVp_10 c).symm
        · exact (hVp_11 c).symm)
      (fun b hb => hVp_ne c b (fun h => hb (h ▸ Finset.mem_image.mpr ⟨10, Finset.mem_univ _, rfl⟩))
        (fun h => hb (h ▸ Finset.mem_image.mpr ⟨11, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The two arrays of the copying region. -/
abbrev rx : DevRef τ sig := Proc.devRef .tc main_arg0
abbrev ro : DevRef τ sig := Proc.devRef .tc main_v21
theorem rx_mem : rx ∈ Pipeline.ucRefs τ sig := Finset.mem_filter.mpr ⟨StableHlo.devRef_mem_tcRefs main_arg0, by decide⟩
theorem ro_mem : ro ∈ (Pipeline.ucRefs τ sig).erase rx :=
  Finset.mem_erase.mpr ⟨by decide, Finset.mem_filter.mpr ⟨StableHlo.devRef_mem_tcRefs main_v21, by decide⟩⟩

/-- The rest of the unscoped buffers. -/
abbrev rest (c : Dev nD) (W : Valuation τ sig (Elt F)) : sProp 𝕄 :=
  bigSep (((Pipeline.ucRefs τ sig).erase rx).erase ro) fun b => ((c, b) : Loc nD τ sig) ↦{fullShare} W b

theorem held_split (c : Dev nD) (W : Valuation τ sig (Elt F)) :
    (StableHlo.held (c : Thread nD τ) (Pipeline.ucRefs τ sig) W : sProp 𝕄) = iprop(pt c mx (W main_arg0) ∗ pt c mo (W main_v21) ∗ rest c W) := by
  unfold StableHlo.held
  rw [bigSep_erase rx_mem, bigSep_erase ro_mem]
  rfl

set_option backward.isDefEq.respectTransparency.types false in
/-- The copying region: entered with every unscoped buffer at `V'`, left with the result at the argument's words. -/
def reg1 : Pipeline.RegionSeg (pcfgs (F := F)) adm (pdats V V') () defs₀ 𝒱₀ L lv 1 where
  win := launch1.win.to₀
  block_pos := launch1.block_pos
  stage_whole := launch1.stage_whole
  K := Fin 4
  osem := osem
  ho := ownSemFacts
  hbody c := (copy_obligation (fun c b => V' c b) c).loose
  hwaits := Pipeline.hwaits_of_owed_zero _ _ _ _ L lv 1 fun _ _ => rfl
  pre c := iprop(StableHlo.held (c : Thread nD τ) (Pipeline.ucRefs τ sig) (V' c) ∗ R c)
  post c := iprop((pt c mx (V' c main_arg0) ∗ pt c mo (asOut c (V' c main_arg0)) ∗ rest c (V' c)) ∗ R c)
  X c := iprop(pt c mx (V' c main_arg0) ∗ pt c mo (V' c main_v21) ∗ sems0 c)
  Y c := iprop(pt c mx (V' c main_arg0) ∗ pt c mo (asOut c (V' c main_arg0)))
  Z c := rest c (V' c)
  hentry c := by
    rw [ownSems0_eq, held_split]
    iintro ⟨⟨⟨Hx, Ho, Hr⟩, HO⟩, Hos, -⟩
    imodintro
    isplitr; · unfold Pipeline.Dat.arrays; rw [show (Finset.univ : Finset (Fin cfg1.W)) = ∅ from rfl, BI.bigSep_empty]; iempintro
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hx Ho Hos]
    · isplitl [Hx]; · iexact Hx
      isplitl [Ho]; · iexact Ho
      iexact Hos
    iexact Hr
  hin c := by
    rw [show (pdats V V' 1 c).Φ 0 = Φ0 (fun c b => V' c b) c from rfl]; unfold Φ0
    iintro ⟨⟨Hx, Ho, Hos⟩, -, Hr⟩
    isplitl [Hx]; · iexact Hx
    isplitl [Ho]; · iexact Ho
    isplitl [Hos] <;> iassumption
  hout c := by
    rw [ownSems0_eq, show (pdats V V' 1 c).Φ (Fin.last _) = Φ1 (fun c b => V' c b) c from rfl]; unfold Φ1
    iintro ⟨Hx, Ho, Hos, Hr⟩
    isplitl [Hx Ho]
    · isplitl [Hx] <;> iassumption
    isplitl [Hos] <;> iassumption
  hexit c := by
    iintro ⟨-, HO, ⟨Hx, Ho⟩, Hr⟩
    imodintro
    isplitr [HO]
    · isplitl [Hx]; · iexact Hx
      isplitl [Ho] <;> iassumption
    · unfold Pipeline.Dat.owesAt Pipeline.owesWithin
      icases HO with ⟨%W, -, HO⟩; iexists W; iexact HO

end Cert.KernelIdeal.Regs

end
-- ==== Proof.KernelIdeal.Run.lean ====
/-
  The whole program's run: from any memory with zero counters every execution ends with the copied result equal to the
  argument, the loss as the last host operation leaves it, the arguments as launched and every counter at zero.
-/
module

public import proofs.«01_k».proof.Proof.KernelIdeal.Regs

@[expose] public section

set_option maxRecDepth 16384

noncomputable section

namespace Cert.KernelIdeal.Regs

open Cert.KernelIdeal Cert.KernelIdeal.Gen
open Cert.KernelIdeal.Copy (UU Bf pt mx mo mb0 mb1 sems0 asOut)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg HostSeg Seg)

variable {F : FTy → Type} [FloatOps F] [Named F]

local notation "𝕄" => MT nD τ sig Unit (Elt F) ℕ UU ℕ

variable (m : (ℓ : Loc nD τ sig) → Buf (Elt F) ℓ)

/-- What the regions leave in the three results they write. -/
def outs : Outs (F := F) := fun _ r c =>
  Function.update (β := fun r : Ref sig .tc => Buf (Elt F) ((c : Thread nD τ).loc r))
    (Function.update (β := fun r : Ref sig .tc => Buf (Elt F) ((c : Thread nD τ).loc r))
      (Function.update (β := fun r : Ref sig .tc => Buf (Elt F) ((c : Thread nD τ).loc r)) (fun r => V1 m c r)
        main_v21 (asOut c (m ((c : Thread nD τ).loc main_arg0))))
      main_v20_0 (Gate.out10 (fun c b => V1 m c b) c))
    main_v20_1 (Gate.out11 (fun c b => V1 m c b) c) r

theorem outs_10 (k : ℕ) (c : Dev nD) : outs m k main_v20_0 c = Gate.out10 (fun c b => V1 m c b) c := by
  unfold outs
  rw [Function.update_of_ne (by decide), Function.update_self]
theorem outs_11 (k : ℕ) (c : Dev nD) : outs m k main_v20_1 c = Gate.out11 (fun c b => V1 m c b) c := by
  unfold outs
  rw [Function.update_self]
theorem outs_out (k : ℕ) (c : Dev nD) : outs m k main_v21 c = asOut c (m ((c : Thread nD τ).loc main_arg0)) := by
  unfold outs
  rw [Function.update_of_ne (by decide), Function.update_of_ne (by decide), Function.update_self]

theorem V2_arg0 (c : Dev nD) : V2 m (outs m) c main_arg0 = m ((c : Thread nD τ).loc main_arg0) :=
  (V2_of m (outs m) c main_arg0 (by decide)).trans (V1_of m c main_arg0 (by decide))

theorem V2_11 (c : Dev nD) : V2 m (outs m) c main_v20_1 = Gate.out11 (fun c b => V1 m c b) c := by
  unfold V2
  rw [Function.update_self, outs_11]
theorem V2_10 (c : Dev nD) : V2 m (outs m) c main_v20_0 = Gate.out10 (fun c b => V1 m c b) c := by
  unfold V2
  rw [Function.update_of_ne (by decide), Function.update_self, outs_10]

theorem V3_out (c : Dev nD) : V3 m (outs m) c main_v21 = asOut c (m ((c : Thread nD τ).loc main_arg0)) := by
  unfold V3
  rw [Function.update_self, outs_out]

theorem V4_out (c : Dev nD) : V4 m (outs m) c main_v21 = asOut c (m ((c : Thread nD τ).loc main_arg0)) :=
  (V4_of m (outs m) c main_v21 (by decide)).trans (V3_out m c)

/-- The launch element: the rounds at the staging cells and the transfers; no counter yet. -/
def u₀ : UU := (initOf (Pipeline.cells cfgs cellOf_inj) (Pipeline.launchToks cfgs cellOf_inj), 1)

/-- The proof data at the program's own contents. -/
abbrev PD := pdats (F := F) (V1 m) (V2 m (outs m))

abbrev r0 := reg0 (F := F) (V1 m) (V2 m (outs m)) (V2 m (outs m)) (V2_10 m) (V2_11 m)
  (fun c b h h' => V2_of m (outs m) c b (by simp only [List.mem_cons, List.not_mem_nil, or_false, not_or]; exact ⟨h, h'⟩))
abbrev r1 := reg1 (F := F) (V1 m) (V2 m (outs m))

theorem post1 (c : Dev nD) : (r1 m).post c ⊢ iprop(StableHlo.held (c : Thread nD τ) (Pipeline.ucRefs τ sig) (V3 m (outs m) c) ∗ R c) := by
  rw [held_split, V3_out, V3_of m (outs m) c main_arg0 (by decide), V2_arg0]
  have hr : (rest c (V3 m (outs m) c) : sProp 𝕄) = rest c (V2 m (outs m) c) := by
    refine bigSep_congr fun b hb => ?_
    have hne : b ≠ ro := (Finset.mem_erase.mp hb).1
    rw [show V3 m (outs m) c b = V2 m (outs m) c b from Function.update_of_ne hne _ _]
  rw [hr, show (r1 m).post c = iprop((pt c mx (V2 m (outs m) c main_arg0) ∗ pt c mo (asOut c (V2 m (outs m) c main_arg0)) ∗ rest c (V2 m (outs m) c)) ∗ R c) from rfl, V2_arg0]

-- the kit's implicit arguments are found by unifying its conclusion with this one, which takes unfolding plain
-- definitions in a metavariable's type
set_option backward.isDefEq.respectTransparency.types false in
theorem run_main (ρ : Dev nD → PrngReg) :
    θ_run defs (onTc (τ := τ) (main (F := F))) ⟨m, fun _ => 0, ρ⟩ (fun r => (∀ c : Dev nD, r.2.mem ((c.tc : Thread nD τ).loc main_v21) = (asOut c (m ((c.tc : Thread nD τ).loc main_arg0)) : Buf (Elt F) ((c : Thread nD τ).loc main_v21)) ∧ r.2.mem ((c.tc : Thread nD τ).loc main_v22) = V4 m (outs m) c main_v22 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) := by
  refine Pipeline.θ_run_regions_kit_dev_sems (pcfgs (F := F)) adm (PD m) () cellOf_inj EP defs₀ 𝒱₀ L lv m ρ main
    (segs m (outs m) 𝒱₀ L lv (fun _ c => R c) () (PD m) (r0 m) (r1 m))
    (fun c Q => by
      rewrite [main_chain c, Seg.run_eq_chain,
        show (segs m (outs m) 𝒱₀ L lv (fun _ c => R c) () (PD m) (r0 m) (r1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V4 m (outs m) c))
    (hch := fun c => ⟨.rfl, sep_mono (Entails.of_eq (Pipeline.unscopedBufs_held c (V1 m c)).symm) .rfl,
      sep_mono (Entails.of_eq (Pipeline.unscopedBufs_held c (V2 m (outs m) c))) .rfl, post1 m c, .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v21) = (asOut c (m ((c.tc : Thread nD τ).loc main_arg0)) : Buf (Elt F) ((c : Thread nD τ).loc main_v21)) ∧ s.mem ((c.tc : Thread nD τ).loc main_v22) = V4 m (outs m) c main_v22 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_v21) (Finset.mem_filter.mpr ⟨StableHlo.devRef_mem_tcRefs main_v21, by decide⟩)).trans (V4_out m c),
        (h (Proc.devRef .tc main_v22) (Finset.mem_filter.mpr ⟨StableHlo.devRef_mem_tcRefs main_v22, by decide⟩)),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c)⟩
    · iexact HSI

end Cert.KernelIdeal.Regs

end
-- ==== Proof.Words.lean ====
/-
  The run at machine words, from the run of the kernel with its constant named. A named constant read as the word it is
  printed with makes the two programs one, and the run is proved at any reading of the floating-point types.
-/
module

public import proofs.«01_k».proof.Defs
public import proofs.«01_k».proof.Proof.Gen.Kernel
public import proofs.«01_k».proof.Proof.KernelIdeal.Run

@[expose] public section

noncomputable section

namespace Cert.Words

open Idealize.ShloMosaic Idealize.SL.Sem

/-- At machine words a named constant is the word it is printed with. -/
@[reducible] def words : Named Bits where
  named _ _ {φ} b := FloatOps.ofBits φ b

attribute [local instance] words

/-- The two kernels' bodies are the same. -/
theorem bodies_eq : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl
  | 1, (t, s) => rfl
  | ⟨n + 2, h⟩, _ => exact absurd h (Nat.not_lt.2 (Nat.le_add_left _ _))

/-- So are the procedures around them. -/
theorem defs_eq : Cert.Kernel.defs (F := Bits) = Cert.KernelIdeal.defs (F := Bits) :=
  congrArg (Pipeline.defs (Cert.Kernel.pcfgs (F := Bits))) bodies_eq

set_option maxHeartbeats 2000000 in
/-- So are the host programs. -/
theorem main_eq : Cert.Kernel.main (F := Bits) = Cert.KernelIdeal.main (F := Bits) := rfl

theorem run_eq (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      = θ_run (Cert.KernelIdeal.defs (F := Bits)) (onTc (τ := Cert.KernelIdeal.τ) (Cert.KernelIdeal.main (F := Bits))) ⟨m, fun _ => 0, ρ⟩ :=
  congrArg₂ (fun d p => θ_run d (onTc (τ := Cert.Kernel.τ) p) ⟨m, fun _ => 0, ρ⟩) defs_eq main_eq

/-- The kernel runs, leaves its arguments and ends with every counter at zero. -/
theorem frame : Cert.quiescent_Kernel := fun m ρ _ => by
  rw [run_eq m ρ]
  exact (θ_run (Cert.KernelIdeal.defs (F := Bits)) _ _).mono (fun _ h => ⟨fun c => (h.1 c).2.2, h.2⟩)
    (Cert.KernelIdeal.Regs.run_main (F := Bits) m ρ)

end Cert.Words

end
-- ==== Proof.Math.Select.lean ====
/- Picking the largest entries of a row one after the other: an iterated first-largest search and a stable sort pick
   the same positions. -/
module

public import Idealize.ShloMosaic.PureOps.ShapeOps
public import Idealize.ShloMosaic.Lib.SortFacts
public import Idealize.ShloMosaic.PureOps.Ideal
public import Idealize.ShloMosaic.PureOps.Ideal.Laws

@[expose] public section

noncomputable section

namespace Cert.Math

open Idealize.ShloMosaic

variable {n : ℕ}

/-- `i` lies outside `S` and comes first among the largest entries outside `S`. -/
def IsTop (v : Fin n → EReal) (S : Finset (Fin n)) (i : Fin n) : Prop :=
  i ∉ S ∧ ∀ j, j ∉ S → j ≠ i → v j < v i ∨ (v j = v i ∧ i < j)

theorem IsTop.unique {v : Fin n → EReal} {S : Finset (Fin n)} {i i' : Fin n} (h : IsTop v S i) (h' : IsTop v S i') :
    i = i' := by
  by_contra hne
  rcases h.2 i' h'.1 (Ne.symm hne) with a | ⟨a, b⟩ <;> rcases h'.2 i h.1 hne with c | ⟨c, d⟩
  · exact lt_asymm a c
  · exact a.ne c.symm
  · exact c.ne a.symm
  · exact lt_asymm b d

theorem IsTop.le {v : Fin n → EReal} {S : Finset (Fin n)} {i : Fin n} (h : IsTop v S i) {j : Fin n} (hj : j ∉ S) :
    v j ≤ v i := by
  by_cases e : j = i
  · rw [e]
  · rcases h.2 j hj e with a | ⟨a, _⟩
    · exact a.le
    · exact a.le

/-- A row of which not every position is taken has a first largest entry. -/
theorem exists_isTop (v : Fin n → EReal) (S : Finset (Fin n)) (hS : ∃ i, i ∉ S) : ∃ i, IsTop v S i := by
  classical
  have hne : (Finset.univ.filter fun i => i ∉ S).Nonempty := by
    obtain ⟨i, hi⟩ := hS; exact ⟨i, by simp [hi]⟩
  obtain ⟨m, hm, hmax⟩ := Finset.exists_max_image _ v hne
  have hne' : (Finset.univ.filter fun i => i ∉ S ∧ v i = v m).Nonempty :=
    ⟨m, by simpa using (Finset.mem_filter.1 hm).2⟩
  obtain ⟨i, hi, hmin⟩ := Finset.exists_min_image _ (fun i => i) hne'
  have hi' := (Finset.mem_filter.1 hi).2
  refine ⟨i, hi'.1, fun j hj hji => ?_⟩
  have hle : v j ≤ v m := hmax j (by simp [hj])
  rcases hle.lt_or_eq with h | h
  · left; rw [hi'.2]; exact h
  · right
    refine ⟨h.trans hi'.2.symm, lt_of_le_of_ne (hmin j ?_) (Ne.symm hji)⟩
    simp [hj, h]

/-! ## The stable sort -/

theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable sort by a relation is the sort by its completion with the positions' own order. -/
theorem sortedFrom_congr_later (R R' : Fin n → Fin n → Bool) (h : ∀ a b : Fin n, a < b → R b a = R' b a) :
    sortedFrom R = sortedFrom R' := by
  have e : sortPositions n R = sortPositions n R' :=
    stableSort_congr_later R R' _ ((List.pairwise_lt_finRange n).imp fun {a b} hab => h a b hab)
  funext k
  unfold sortedFrom
  rw [List.get_of_eq e]
  rfl

/-- Position `k` of a stable descending sort is the first largest entry outside the earlier ones. -/
theorem isTop_sortedFrom (v : Fin n → EReal) (R : Fin n → Fin n → Bool) (hR : ∀ a b, R a b = decide (v b < v a)) (k : Fin n) :
    IsTop v (Finset.univ.filter fun i => ∃ l, l < k ∧ sortedFrom R l = i) (sortedFrom R k) := by
  classical
  let L : Fin n → Fin n → Bool := fun a b => decide (v b < v a ∨ (v b = v a ∧ a < b))
  have e : sortedFrom R = sortedFrom L := sortedFrom_congr_later R L fun a b hab => by
    rw [hR]
    refine decide_eq_decide.2 ⟨Or.inl, ?_⟩
    rintro (h | ⟨_, h⟩)
    · exact h
    · exact absurd h (not_lt.2 hab.le)
  have hno : ∀ i j : Fin n, i < j → L (sortedFrom L j) (sortedFrom L i) = false :=
    sortedFrom_noInversion L L
      (fun a b h => by
        simp only [L, decide_eq_true_eq, decide_eq_false_iff_not] at h ⊢
        rintro (h' | ⟨h', h''⟩) <;> rcases h with h | ⟨h, h3⟩
        · exact lt_asymm h h'
        · exact h'.ne h.symm
        · exact h.ne h'.symm
        · exact lt_asymm h3 h'')
      (fun _ _ h => h)
      (fun a b c h h' => by
        simp only [L, decide_eq_false_iff_not, not_or, not_and, not_lt] at h h' ⊢
        refine ⟨h.1.trans h'.1, fun e => ?_⟩
        have e1 : v b = v a := le_antisymm (by rw [← e]; exact h'.1) h.1
        exact (h'.2 (by rw [e, e1])).trans (h.2 e1))
  rw [e]
  refine ⟨?_, fun j hj hjk => ?_⟩
  · simp only [Finset.mem_filter, Finset.mem_univ, true_and, not_exists, not_and]
    exact fun l hl h => hl.ne (sortedFrom_injective L h)
  · obtain ⟨p, rfl⟩ := sortedFrom_surjective L j
    have hkp : k < p := by
      rcases lt_trichotomy p k with h | h | h
      · exact absurd (by simp only [Finset.mem_filter, Finset.mem_univ, true_and]; exact ⟨p, h, rfl⟩) hj
      · exact absurd (by rw [h]) hjk
      · exact h
    have h := hno k p hkp
    simp only [L, decide_eq_false_iff_not, not_or, not_and, not_lt] at h
    rcases h.1.lt_or_eq with a | a
    · left; exact a
    · right; exact ⟨a, lt_of_le_of_ne (h.2 a.symm) (Ne.symm hjk)⟩

/-! ## The search -/

theorem fold_minsi_le {ι : Type} [DecidableEq ι] (s : Finset ι) (acc : BitVec 32) (g : ι → BitVec 32) :
    (s.fold IntOp.minsi acc g).toInt ≤ acc.toInt ∧ ∀ i ∈ s, (s.fold IntOp.minsi acc g).toInt ≤ (g i).toInt := by
  induction s using Finset.induction_on with
  | empty => simp
  | insert a s ha ih =>
    rw [Finset.fold_insert ha]
    have hm : ∀ x y : BitVec 32, (IntOp.minsi x y).toInt ≤ x.toInt ∧ (IntOp.minsi x y).toInt ≤ y.toInt := fun x y => by
      unfold IntOp.minsi
      split
      · rename_i h; rw [BitVec.slt_iff_toInt_lt] at h; exact ⟨le_rfl, h.le⟩
      · rename_i h; rw [BitVec.slt_iff_toInt_lt] at h; exact ⟨not_lt.1 h, le_rfl⟩
    refine ⟨(hm _ _).2.trans ih.1, fun i hi => ?_⟩
    rcases Finset.mem_insert.1 hi with rfl | hi
    · exact (hm _ _).1
    · exact (hm _ _).2.trans (ih.2 i hi)

theorem fold_minsi_mem {ι : Type} [DecidableEq ι] (s : Finset ι) (acc : BitVec 32) (g : ι → BitVec 32) :
    s.fold IntOp.minsi acc g = acc ∨ ∃ i ∈ s, s.fold IntOp.minsi acc g = g i := by
  induction s using Finset.induction_on with
  | empty => simp
  | insert a s ha ih =>
    rw [Finset.fold_insert ha]
    unfold IntOp.minsi
    split
    · exact Or.inr ⟨a, Finset.mem_insert_self _ _, rfl⟩
    · rcases ih with h | ⟨i, hi, h⟩
      · exact Or.inl h
      · exact Or.inr ⟨i, Finset.mem_insert_of_mem hi, h⟩

/-- The word of a small number read as a signed integer. -/
theorem toInt_ofNat {k : ℕ} (h : k < 2147483648) : (BitVec.ofNat 32 k).toInt = k := by
  rw [BitVec.toInt_eq_toNat_of_lt]
  · rw [BitVec.toNat_ofNat, Nat.mod_eq_of_lt (by omega)]
  · rw [BitVec.toNat_ofNat, Nat.mod_eq_of_lt (by omega)]; omega

theorem ofNat_inj {k l : ℕ} (hk : k < 2147483648) (hl : l < 2147483648) (h : BitVec.ofNat 32 k = BitVec.ofNat 32 l) :
    k = l := by
  have := congrArg BitVec.toInt h
  rw [toInt_ofNat hk, toInt_ofNat hl] at this
  exact_mod_cast this

/-- The least position at which a row takes its maximum, where the taken positions hold the least value. -/
theorem search_eq (v w : Fin n → EReal) (S : Finset (Fin n)) (i : Fin n) (hn : n < 2147483648) (hi : IsTop v S i)
    (hv : ∀ f, v f ≠ ⊥) (hw : ∀ f, w f = if f ∈ S then ⊥ else v f) :
    ((Finset.univ : Finset (Fin n)).fold IntOp.minsi 2147483647#32
      fun f => if w f = (Finset.univ : Finset (Fin n)).fold max ⊥ w then BitVec.ofNat 32 f.val else BitVec.ofNat 32 n)
      = BitVec.ofNat 32 i.val := by
  classical
  have hmax : (Finset.univ : Finset (Fin n)).fold max ⊥ w = v i := by
    apply le_antisymm
    · rw [Finset.fold_max_le]
      refine ⟨bot_le, fun f _ => ?_⟩
      rw [hw]
      split
      · exact bot_le
      · exact hi.le (by assumption)
    · rw [Finset.le_fold_max]
      right
      exact ⟨i, Finset.mem_univ _, by rw [hw, if_neg hi.1]⟩
  rw [hmax]
  have hwi : w i = v i := by rw [hw, if_neg hi.1]
  set g : Fin n → BitVec 32 := fun f => if w f = v i then BitVec.ofNat 32 f.val else BitVec.ofNat 32 n with hg
  have gi : g i = BitVec.ofNat 32 i.val := by simp [hg, hwi]
  have hle := (fold_minsi_le Finset.univ 2147483647#32 g).2 i (Finset.mem_univ _)
  rw [gi, toInt_ofNat (by omega)] at hle
  have hin := i.isLt
  rcases fold_minsi_mem Finset.univ 2147483647#32 g with h | ⟨f, _, h⟩
  · rw [h] at hle
    have : (2147483647#32 : BitVec 32).toInt = 2147483647 := by decide
    omega
  · rw [h] at hle ⊢
    have hf := f.isLt
    by_cases hwf : w f = v i
    · have gf : g f = BitVec.ofNat 32 f.val := by simp [hg, hwf]
      rw [gf, toInt_ofNat (by omega)] at hle
      have hfi : f ≤ i := by exact_mod_cast hle
      have hfS : f ∉ S := fun hS => by
        rw [hw, if_pos hS] at hwf; exact hv i hwf.symm
      by_cases e : f = i
      · rw [gf, e]
      · rcases hi.2 f hfS e with a | ⟨_, a⟩
        · rw [hw, if_neg hfS] at hwf; exact absurd hwf a.ne
        · exact absurd hfi (not_le.2 a)
    · have gf : g f = BitVec.ofNat 32 n := by simp [hg, hwf]
      rw [gf, toInt_ofNat (by omega)] at hle
      omega

end Cert.Math

end
-- ==== Proof.Math.Search.lean ====
/- The kernel's search for the first greatest entry of each row, read at an entry. -/
module

public import proofs.«01_k».proof.Proof.Math.Select
public import proofs.«01_k».proof.Proof.Gen.KernelIdeal.Skeleton
public import Idealize.ShloMosaic.Lib.Pointwise

@[expose] public section

noncomputable section

namespace Cert.Search

open Cert.KernelIdeal Cert.KernelIdeal.Gen
open Idealize.ShloMosaic
open Cert.Math

theorem negInf : Ideal.ofBits .f32 0xFF800000#32 = ⊥ := by
  simp [Ideal.ofBits, Ideal.ieee]

theorem sitofp_one : FloatOps.sitofp (F := Ideal) .f32 (BitVec.setWidth 32 (1#1)) = (1 : EReal) := by
  show (((BitVec.setWidth 32 (1#1)).toInt : ℝ) : EReal) = 1
  rw [show (BitVec.setWidth 32 (1#1)).toInt = 1 by decide]; simp

theorem sitofp_zero : FloatOps.sitofp (F := Ideal) .f32 (BitVec.setWidth 32 (0#1)) = (0 : EReal) := by
  show (((BitVec.setWidth 32 (0#1)).toInt : ℝ) : EReal) = 0
  rw [show (BitVec.setWidth 32 (0#1)).toInt = 0 by decide]; simp

/-- The indicator of a column's being the one found. -/
theorem indicator {n : ℕ} (hn : n < 2147483648) (f i : Fin n) :
    FloatOps.sitofp (F := Ideal) .f32 (BitVec.setWidth 32 (IntOp.cmpi .eq (BitVec.ofNat 32 f.val) (BitVec.ofNat 32 i.val)))
      = if f = i then (1 : EReal) else 0 := by
  by_cases h : f = i
  · subst h
    rw [if_pos rfl, show IntOp.cmpi .eq (BitVec.ofNat 32 f.val) (BitVec.ofNat 32 f.val) = 1#1 by simp [IntOp.cmpi]]
    exact sitofp_one
  · have h' : BitVec.ofNat 32 f.val ≠ BitVec.ofNat 32 i.val := fun e =>
      h (Fin.ext (ofNat_inj (by omega) (by omega) e))
    rw [if_neg h, show IntOp.cmpi .eq (BitVec.ofNat 32 f.val) (BitVec.ofNat 32 i.val) = 0#1 by
      show BitVec.ofBool (BitVec.ofNat 32 f.val == BitVec.ofNat 32 i.val) = 0#1
      rw [beq_eq_false_iff_ne.2 h']; rfl]
    exact sitofp_zero

/-- One step of the search over 47 columns: one at the first greatest entry of each row, zero elsewhere. -/
def sel47 (w : FVec Ideal S10272x47 .f32) : FVec Ideal S10272x47 .f32 :=
  sitofp .f32 (extui 32 (cmpi .eq (iota .tc S10272x47 32 [1] iota_S10272x47_d1_w32)
    (broadcastTo S10272x47 (shapeCast S10272x1 (multiReductionI .minsi [1] S10272
      (select (cmpf .oeq w (broadcastTo S10272x47 (shapeCast S10272x1 (multiReduction .maximumf [1] S10272 w 0xFF800000#32 reduces_S10272x47_S10272 (.inl rfl) rfl) shapeCasts_S10272_S10272x1) broadcasts_S10272x1_S10272x47))
        (iota .tc S10272x47 32 [1] iota_S10272x47_d1_w32) (broadcast S10272x47 47#32))
      2147483647#32 reduces_S10272x47_S10272 rfl) shapeCasts_S10272_S10272x1) broadcasts_S10272x1_S10272x47)) natLt_1_32)

/-- What one step leaves: the entry found at minus infinity, the rest as before. -/
def kill47 (s w : FVec Ideal S10272x47 .f32) : FVec Ideal S10272x47 .f32 :=
  select (cmpf .ogt s (broadcast S10272x47 (Scalar.ofBits .f32 0x00000000#32))) (broadcast S10272x47 (Scalar.ofBits .f32 0xFF800000#32)) w

theorem sel47_at (w : FVec Ideal S10272x47 .f32) (r : Fin 10272) (v : Fin 47 → EReal) (S : Finset (Fin 47)) (i : Fin 47)
    (hi : IsTop v S i) (hv : ∀ f, v f ≠ ⊥) (hw : ∀ f, w (ix2 r f) = if f ∈ S then ⊥ else v f) (f : Fin 47) :
    sel47 w (ix2 r f) = if f = i then (1 : EReal) else 0 := by
  have key := search_eq v (fun x => w (ix2 r x)) S i (by decide) hi hv hw
  pointwise [sel47]
  rw [negInf]
  rw [show (47#32 : BitVec 32) = BitVec.ofNat 32 47 from rfl, key]
  exact indicator (by decide) f i

theorem kill47_at (s w : FVec Ideal S10272x47 .f32) (r : Fin 10272) (v : Fin 47 → EReal) (S : Finset (Fin 47)) (i : Fin 47)
    (hs : ∀ f, s (ix2 r f) = if f = i then (1 : EReal) else 0) (hw : ∀ f, w (ix2 r f) = if f ∈ S then ⊥ else v f) (f : Fin 47) :
    kill47 s w (ix2 r f) = if f ∈ insert i S then ⊥ else v f := by
  pointwise [kill47]
  rw [hs, hw, negInf]
  by_cases h : f = i
  · simp [h]
  · simp [h]

/-- One step of the search over 4 columns: one at the first greatest entry of each row, zero elsewhere. -/
def sel4 (w : FVec Ideal S32x4 .f32) : FVec Ideal S32x4 .f32 :=
  sitofp .f32 (extui 32 (cmpi .eq (iota .tc S32x4 32 [1] iota_S32x4_d1_w32)
    (broadcastTo S32x4 (shapeCast S32x1 (multiReductionI .minsi [1] S32
      (select (cmpf .oeq w (broadcastTo S32x4 (shapeCast S32x1 (multiReduction .maximumf [1] S32 w 0xFF800000#32 reduces_S32x4_S32 (.inl rfl) rfl) shapeCasts_S32_S32x1) broadcasts_S32x1_S32x4))
        (iota .tc S32x4 32 [1] iota_S32x4_d1_w32) (broadcast S32x4 4#32))
      2147483647#32 reduces_S32x4_S32 rfl) shapeCasts_S32_S32x1) broadcasts_S32x1_S32x4)) natLt_1_32)

/-- What one step leaves: the entry found at minus infinity, the rest as before. -/
def kill4 (s w : FVec Ideal S32x4 .f32) : FVec Ideal S32x4 .f32 :=
  select (cmpf .ogt s (broadcast S32x4 (Scalar.ofBits .f32 0x00000000#32))) (broadcast S32x4 (Scalar.ofBits .f32 0xFF800000#32)) w

theorem sel4_at (w : FVec Ideal S32x4 .f32) (r : Fin 32) (v : Fin 4 → EReal) (S : Finset (Fin 4)) (i : Fin 4)
    (hi : IsTop v S i) (hv : ∀ f, v f ≠ ⊥) (hw : ∀ f, w (ix2 r f) = if f ∈ S then ⊥ else v f) (f : Fin 4) :
    sel4 w (ix2 r f) = if f = i then (1 : EReal) else 0 := by
  have key := search_eq v (fun x => w (ix2 r x)) S i (by decide) hi hv hw
  pointwise [sel4]
  rw [negInf]
  rw [show (4#32 : BitVec 32) = BitVec.ofNat 32 4 from rfl, key]
  exact indicator (by decide) f i

theorem kill4_at (s w : FVec Ideal S32x4 .f32) (r : Fin 32) (v : Fin 4 → EReal) (S : Finset (Fin 4)) (i : Fin 4)
    (hs : ∀ f, s (ix2 r f) = if f = i then (1 : EReal) else 0) (hw : ∀ f, w (ix2 r f) = if f ∈ S then ⊥ else v f) (f : Fin 4) :
    kill4 s w (ix2 r f) = if f ∈ insert i S then ⊥ else v f := by
  pointwise [kill4]
  rw [hs, hw, negInf]
  by_cases h : f = i
  · simp [h]
  · simp [h]

end Cert.Search

end
end
-- ==== Proof.Math.Spec.lean ====
/-
  The gate's logits as real numbers: the transform of each series, its three strongest frequencies, the part they
  rebuild, the smoothed series added, the weighted sum over the channels and the gate's linear map.
-/
module

public import proofs.«01_k».proof.Proof.Math.Select
public import Idealize.ShloMosaic.PureOps.Ideal

@[expose] public section

noncomputable section

namespace Cert.Spec

open Cert.Math
open Idealize.ShloMosaic

/-- The arguments and tables as real numbers: series `X b t n`, averaging weights `M`, transform tables `C`, `S`, tables
    for rebuilding `RC`, `RS`, and the two linear maps' weights and biases. -/
structure Args where
  X : Fin 32 → Fin 96 → Fin 321 → ℝ
  M : Fin 96 → Fin 96 → ℝ
  C : Fin 96 → Fin 47 → ℝ
  S : Fin 96 → Fin 47 → ℝ
  RC : Fin 47 → Fin 96 → ℝ
  RS : Fin 47 → Fin 96 → ℝ
  ws : Fin 321 → ℝ
  wb : ℝ
  wg : Fin 4 → Fin 96 → ℝ
  gb : Fin 4 → ℝ

/-- The first greatest entry outside `R`. -/
def pick {n : ℕ} [NeZero n] (v : Fin n → EReal) (R : Finset (Fin n)) : Fin n := by
  classical
  exact if h : ∃ i, IsTop v R i then h.choose else 0

theorem pick_isTop {n : ℕ} [NeZero n] (v : Fin n → EReal) (R : Finset (Fin n)) (h : R.card < n) : IsTop v R (pick v R) := by
  classical
  have hR : ∃ i, i ∉ R := by
    by_contra hc
    push Not at hc
    have : R = Finset.univ := Finset.eq_univ_iff_forall.2 hc
    rw [this, Finset.card_univ, Fintype.card_fin] at h
    exact lt_irrefl _ h
  have h' : ∃ i, IsTop v R i := exists_isTop v R hR
  unfold pick
  rw [dif_pos h']
  exact h'.choose_spec

/-- The strongest three entries in order. -/
def top1 {n : ℕ} [NeZero n] (v : Fin n → EReal) : Fin n := pick v ∅
def top2 {n : ℕ} [NeZero n] (v : Fin n → EReal) : Fin n := pick v {top1 v}
def top3 {n : ℕ} [NeZero n] (v : Fin n → EReal) : Fin n := pick v {top2 v, top1 v}

section
variable {n : ℕ} [NeZero n] (v : Fin n → EReal)
theorem top1_isTop : IsTop v ∅ (top1 v) := pick_isTop v _ (by simp [Nat.pos_of_ne_zero (NeZero.ne n)])
theorem top2_isTop (hn : 1 < n) : IsTop v {top1 v} (top2 v) := pick_isTop v _ (by simpa using hn)
theorem top3_isTop (hn : 2 < n) : IsTop v {top2 v, top1 v} (top3 v) :=
  pick_isTop v _ (lt_of_le_of_lt (Finset.card_insert_le _ _) (by simpa using hn))
theorem top2_ne (hn : 1 < n) : top2 v ≠ top1 v := fun h => (top2_isTop v hn).1 (by simp [h])
end

variable (a : Args)

def re (b : Fin 32) (n : Fin 321) (f : Fin 47) : ℝ := ∑ t, a.X b t n * a.C t f
def im (b : Fin 32) (n : Fin 321) (f : Fin 47) : ℝ := ∑ t, a.X b t n * a.S t f
def mag (b : Fin 32) (n : Fin 321) (f : Fin 47) : ℝ := Real.sqrt (re a b n f * re a b n f + im a b n f * im a b n f)

/-- The three strongest frequencies of a series. -/
def freq (b : Fin 32) (n : Fin 321) : Fin 3 → Fin 47 :=
  ![top1 fun f => (mag a b n f : EReal), top2 fun f => (mag a b n f : EReal), top3 fun f => (mag a b n f : EReal)]

/-- One rebuilt wave. -/
def wave (b : Fin 32) (n : Fin 321) (t : Fin 96) (f : Fin 47) : ℝ := re a b n f * a.RC f t + im a b n f * a.RS f t

/-- What the strongest three frequencies rebuild. -/
def season (b : Fin 32) (n : Fin 321) (t : Fin 96) : ℝ := (1 / 48) * ∑ k, wave a b n t (freq a b n k)

/-- The series with what is added to it, summed over the channels by weight. -/
def mix (b : Fin 32) (t : Fin 96) : ℝ := (∑ n, ((∑ t', a.X b t' n * a.M t' t) + season a b n t) * a.ws n) + a.wb

def logit (b : Fin 32) (e : Fin 4) : ℝ := (∑ t, mix a b t * a.wg e t) + a.gb e

/-- The two experts of a batch entry, the ratio of their weights, the gates and which gates are open. -/
def i1 (b : Fin 32) : Fin 4 := top1 fun e => (logit a b e : EReal)
def i2 (b : Fin 32) : Fin 4 := top2 fun e => (logit a b e : EReal)
def ratio (b : Fin 32) : ℝ := Real.exp (logit a b (i2 a b) - logit a b (i1 a b))
def g1 (b : Fin 32) : ℝ := 1 / (1 + ratio a b)
def g2 (b : Fin 32) : ℝ := ratio a b / (1 + ratio a b)
def gate (b : Fin 32) (e : Fin 4) : ℝ := (if e = i1 a b then g1 a b else 0) + (if e = i2 a b then g2 a b else 0)
def hit (b : Fin 32) (e : Fin 4) : ℝ := (if e = i1 a b then 1 else 0) + (if e = i2 a b then 1 else 0)

theorem ratio_pos (b : Fin 32) : 0 < ratio a b := Real.exp_pos _
theorem g1_pos (b : Fin 32) : 0 < g1 a b := div_pos one_pos (add_pos one_pos (ratio_pos a b))
theorem g2_pos (b : Fin 32) : 0 < g2 a b := div_pos (ratio_pos a b) (add_pos one_pos (ratio_pos a b))
theorem g_add (b : Fin 32) : g1 a b + g2 a b = 1 := by
  have := ratio_pos a b
  unfold g1 g2
  field_simp
theorem i2_ne (b : Fin 32) : i2 a b ≠ i1 a b := top2_ne _ (by decide)

theorem gate_i1 (b : Fin 32) : gate a b (i1 a b) = g1 a b := by simp [gate, (i2_ne a b).symm]
theorem gate_i2 (b : Fin 32) : gate a b (i2 a b) = g2 a b := by simp [gate, i2_ne a b]

/-- The squared coefficient of variation of four numbers, unbiased variance over squared mean. -/
def cv (v : Fin 4 → EReal) : EReal :=
  Ideal.div (Ideal.div (∑ k, (v k - Ideal.div (∑ k, v k) (Ideal.ofBits .f32 0x40800000#32)) * (v k - Ideal.div (∑ k, v k) (Ideal.ofBits .f32 0x40800000#32))) (Ideal.ofBits .f32 0x40400000#32))
    (Ideal.div (∑ k, v k) (Ideal.ofBits .f32 0x40800000#32) * Ideal.div (∑ k, v k) (Ideal.ofBits .f32 0x40800000#32) + Ideal.ofBits .f32 0x2EDBE6FF#32)

/-- The balance loss. -/
def loss : EReal :=
  Ideal.ofBits .f32 0x3C23D70A#32 * (cv (fun e => ∑ b, (gate a b e : EReal)) + cv (fun e => ∑ b, (hit a b e : EReal)))

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

end Cert.Spec

end
end
-- ==== Proof.KernelIdeal.Loss.lean ====
/-
  What the gating region leaves in the loss's array, as one function of the ten arrays it reads.
-/
module

public import proofs.«01_k».proof.Proof.KernelIdeal.Run
public import Idealize.ShloMosaic.Lib.Pipeline.ValueKit

@[expose] public section

set_option maxRecDepth 16384

noncomputable section

namespace Cert.KernelIdeal.Loss

open Cert.KernelIdeal Cert.KernelIdeal.Gen
open Idealize.ShloMosaic
open Idealize.ShloMosaic.TcCoe Idealize.ShloMosaic.Tactic
open Idealize.ShloMosaic.Pipeline (Dat Cfg Window)

variable {F : FTy → Type} [FloatOps F] [Named F]

/-- The body's series of gate inputs, one row per batch entry. -/
def series (x : Vec F S10272x96 .f32) (w : Vec F S32x10272 .f32) (m1 : Vec F S96x96 .f32) (co si : Vec F S96x47 .f32) (rc rs : Vec F S47x96 .f32) (wb : Vec F S1x1 .f32) : FVec F S32x96 .f32 :=
  k0_pay10 (k0_pay2 x) (k0_pay3 x co) (k0_pay4 x si) (iota .tc S10272x47 32 [1] iota_S10272x47_d1_w32) (k0_pay7 x co si) (k0_pay8 x co si) (k0_pay9 x co si) (Scalar.ofBits .f32 0x00000000#32) w rc rs m1 wb

/-- The loss from the gate inputs. -/
def lossOf (s : FVec F S32x96 .f32) (wg : Vec F S96x4 .f32) (gb : Vec F S1x4 .f32) : FVec F S1x1 .f32 :=
  k0_pay1 (k0_pay22 (k0_pay13 s wg gb) (k0_pay16 s wg gb) (k0_pay19 s wg gb) (k0_pay20 s wg gb))
    (k0_pay23 (k0_pay13 s wg gb) (k0_pay16 s wg gb) (k0_pay19 s wg gb) (k0_pay20 s wg gb))
    (k0_pay24 (k0_pay13 s wg gb) (k0_pay16 s wg gb) (k0_pay19 s wg gb) (k0_pay20 s wg gb))

variable (V : (c : Dev nD) → (b : Ref sig .tc) → Buf (Elt F) ((c : Thread nD τ).loc b))

theorem hz2 : (![0, 0] : Fin 2 → ℕ) = fun _ => 0 := by funext a; fin_cases a <;> rfl

/-- The witness of the run at the second result, from the ten blocks. -/
theorem K_eq (c : Dev nD) :
    (stage0_11 0).view.read (Elt F) (Gate.K V c).1.2 = lossOf (series (Gate.stg0 V c) (Gate.stg1 V c) (Gate.stg2 V c) (Gate.stg3 V c) (Gate.stg4 V c) (Gate.stg5 V c) (Gate.stg6 V c) (Gate.stg9 V c)) (Gate.stg7 V c) (Gate.stg8 V c) := by
  unfold Gate.K Gate.gateRun
  dsimp only
  rw [View.read_writes_junk_eq_canon]
  sl_unfold_run_names
  rw [View.canon_unit_zero hz2]
  simp only [View.readAt_eq_ld, View.ld_unit_zero (S := S10272x96) hz2, View.ld_unit_zero (S := S32x10272) hz2, View.ld_unit_zero (S := S96x96) hz2,
    View.ld_unit_zero (S := S96x47) hz2, View.ld_unit_zero (S := S47x96) hz2, View.ld_unit_zero (S := S96x4) hz2, View.ld_unit_zero (S := S1x4) hz2,
    View.ld_unit_zero (S := S1x1) hz2]
  rfl

theorem stg0_eq (c : Dev nD) : Gate.stg0 V c = V c main_v3 := by
  have hz' : (fun a => win0_0.index t0_0 a * main_v3.ty.shape.size a) = fun _ => 0 := funext fun a => by fin_cases a <;> decide
  exact Memref.read_access_unit_zero (Elt F) main_v3 hz' (fun a => by rw [congrFun hz' a]; simp) (V c main_v3)
theorem stg1_eq (c : Dev nD) : Gate.stg1 V c = V c main_v16 := by
  have hz' : (fun a => win0_1.index t0_0 a * main_v16.ty.shape.size a) = fun _ => 0 := funext fun a => by fin_cases a <;> decide
  exact Memref.read_access_unit_zero (Elt F) main_v16 hz' (fun a => by rw [congrFun hz' a]; simp) (V c main_v16)
theorem stg2_eq (c : Dev nD) : Gate.stg2 V c = V c main_cst := by
  have hz' : (fun a => win0_2.index t0_0 a * main_cst.ty.shape.size a) = fun _ => 0 := funext fun a => by fin_cases a <;> decide
  exact Memref.read_access_unit_zero (Elt F) main_cst hz' (fun a => by rw [congrFun hz' a]; simp) (V c main_cst)
theorem stg3_eq (c : Dev nD) : Gate.stg3 V c = V c main_cst_0 := by
  have hz' : (fun a => win0_3.index t0_0 a * main_cst_0.ty.shape.size a) = fun _ => 0 := funext fun a => by fin_cases a <;> decide
  exact Memref.read_access_unit_zero (Elt F) main_cst_0 hz' (fun a => by rw [congrFun hz' a]; simp) (V c main_cst_0)
theorem stg4_eq (c : Dev nD) : Gate.stg4 V c = V c main_cst_1 := by
  have hz' : (fun a => win0_4.index t0_0 a * main_cst_1.ty.shape.size a) = fun _ => 0 := funext fun a => by fin_cases a <;> decide
  exact Memref.read_access_unit_zero (Elt F) main_cst_1 hz' (fun a => by rw [congrFun hz' a]; simp) (V c main_cst_1)
theorem stg5_eq (c : Dev nD) : Gate.stg5 V c = V c main_cst_2 := by
  have hz' : (fun a => win0_5.index t0_0 a * main_cst_2.ty.shape.size a) = fun _ => 0 := funext fun a => by fin_cases a <;> decide
  exact Memref.read_access_unit_zero (Elt F) main_cst_2 hz' (fun a => by rw [congrFun hz' a]; simp) (V c main_cst_2)
theorem stg6_eq (c : Dev nD) : Gate.stg6 V c = V c main_cst_3 := by
  have hz' : (fun a => win0_6.index t0_0 a * main_cst_3.ty.shape.size a) = fun _ => 0 := funext fun a => by fin_cases a <;> decide
  exact Memref.read_access_unit_zero (Elt F) main_cst_3 hz' (fun a => by rw [congrFun hz' a]; simp) (V c main_cst_3)
theorem stg7_eq (c : Dev nD) : Gate.stg7 V c = V c main_v17 := by
  have hz' : (fun a => win0_7.index t0_0 a * main_v17.ty.shape.size a) = fun _ => 0 := funext fun a => by fin_cases a <;> decide
  exact Memref.read_access_unit_zero (Elt F) main_v17 hz' (fun a => by rw [congrFun hz' a]; simp) (V c main_v17)
theorem stg8_eq (c : Dev nD) : Gate.stg8 V c = V c main_v18 := by
  have hz' : (fun a => win0_8.index t0_0 a * main_v18.ty.shape.size a) = fun _ => 0 := funext fun a => by fin_cases a <;> decide
  exact Memref.read_access_unit_zero (Elt F) main_v18 hz' (fun a => by rw [congrFun hz' a]; simp) (V c main_v18)
theorem stg9_eq (c : Dev nD) : Gate.stg9 V c = V c main_v19 := by
  have hz' : (fun a => win0_9.index t0_0 a * main_v19.ty.shape.size a) = fun _ => 0 := funext fun a => by fin_cases a <;> decide
  exact Memref.read_access_unit_zero (Elt F) main_v19 hz' (fun a => by rw [congrFun hz' a]; simp) (V c main_v19)

theorem out11_eq (c : Dev nD) :
    Gate.out11 V c = lossOf (series (V c main_v3) (V c main_v16) (V c main_cst) (V c main_cst_0) (V c main_cst_1) (V c main_cst_2) (V c main_cst_3) (V c main_v19)) (V c main_v17) (V c main_v18) := by
  funext i
  refine ((Gate.dat V c).arrAt_emb_eq_after_last 11 t0_0 (by decide +kernel) i).trans ?_
  show (stage0_11 0).view.read (Elt F) (Gate.K V c).1.2 _ = _
  rw [K_eq, stg0_eq, stg1_eq, stg2_eq, stg3_eq, stg4_eq, stg5_eq, stg6_eq, stg7_eq, stg8_eq, stg9_eq]

end Cert.KernelIdeal.Loss

end
end
-- ==== Proof.Math.Series.lean ====
/-
  The gating body's gate inputs and logits are the real numbers of the specification.
-/
module

public import proofs.«01_k».proof.Proof.Math.Search
public import proofs.«01_k».proof.Proof.Math.Spec
public import proofs.«01_k».proof.Proof.KernelIdeal.Loss
public import Idealize.ShloMosaic.Rules

@[expose] public section

noncomputable section

namespace Cert.Series

open Cert.KernelIdeal Cert.KernelIdeal.Gen
open Idealize.ShloMosaic
open Cert.Math Cert.Spec Cert.Search

/-- The row of a batch entry's channel. -/
def row (b : Fin 32) (n : Fin 321) : Fin 10272 := ⟨b.val * 321 + n.val, by omega⟩

theorem sum_rows {M : Type} [AddCommMonoid M] (g : Fin 10272 → M) : ∑ r, g r = ∑ b, ∑ n, g (row b n) := by
  rw [← Finset.sum_product']
  refine (Finset.sum_bij' (fun p _ => row p.1 p.2)
    (fun r _ => ((⟨r.val / 321, by omega⟩ : Fin 32), (⟨r.val % 321, by omega⟩ : Fin 321))) ?_ ?_ ?_ ?_ ?_).symm
  · intro p _; exact Finset.mem_univ _
  · intro r _; exact Finset.mem_univ _
  · rintro ⟨b, n⟩ _
    refine Prod.ext (Fin.ext ?_) (Fin.ext ?_)
    · show (b.val * 321 + n.val) / 321 = b.val; omega
    · show (b.val * 321 + n.val) % 321 = n.val; omega
  · intro r _
    refine Fin.ext ?_
    show r.val / 321 * 321 + r.val % 321 = r.val; omega
  · intro p _; rfl

/-- What a weighted sum over the rows leaves: the one batch entry's channels. -/
theorem sum_own (ws : Fin 321 → ℝ) (b : Fin 32) (w g : Fin 10272 → EReal) (G : Fin 32 → Fin 321 → ℝ)
    (hw : ∀ b' n, w (row b' n) = ((if b = b' then ws n else 0 : ℝ) : EReal)) (hg : ∀ b' n, g (row b' n) = (G b' n : EReal)) :
    ∑ r, w r * g r = ((∑ n, ws n * G b n : ℝ) : EReal) := by
  rw [sum_rows]
  simp only [hw, hg, ← EReal.coe_mul, ← coe_sum]
  congr 1
  rw [Finset.sum_eq_single b]
  · simp
  · intro b' _ h; simp [Ne.symm h]
  · intro h; exact absurd (Finset.mem_univ _) h

/-- Sums with the mask, picked at the masked positions. -/
theorem sum_mask (ws : Fin 321 → ℝ) (g : Fin 321 → Fin 47 → ℝ) (c : Fin 47 → ℝ) (fr : Fin 321 → Fin 3 → Fin 47) :
    ∑ f, (∑ n, ws n * (g n f * ∑ k, if f = fr n k then (1 : ℝ) else 0)) * c f = ∑ n, ws n * ∑ k, g n (fr n k) * c (fr n k) := by
  simp only [Finset.sum_mul, Finset.mul_sum]
  rw [Finset.sum_comm]
  refine Finset.sum_congr rfl fun n _ => ?_
  rw [Finset.sum_comm]
  refine Finset.sum_congr rfl fun k _ => ?_
  rw [Finset.sum_eq_single (fr n k)]
  · simp; ring
  · intro f _ h; simp [h]
  · intro h; exact absurd (Finset.mem_univ _) h

theorem sum_swap (ws : Fin 321 → ℝ) (X : Fin 96 → Fin 321 → ℝ) (m : Fin 96 → ℝ) :
    ∑ t, (∑ n, ws n * X t n) * m t = ∑ n, (∑ t, X t n * m t) * ws n := by
  simp only [Finset.sum_mul]
  rw [Finset.sum_comm]
  exact Finset.sum_congr rfl fun n _ => Finset.sum_congr rfl fun t _ => by ring

variable (a : Args)
variable (x : FVec Ideal S10272x96 .f32) (w : FVec Ideal S32x10272 .f32) (m1 : FVec Ideal S96x96 .f32) (co si : FVec Ideal S96x47 .f32)
  (rc rs : FVec Ideal S47x96 .f32) (wb : FVec Ideal S1x1 .f32)

/-- The arrays hold the specification's numbers. -/
structure Holds : Prop where
  x : ∀ b n t, x (ix2 (row b n) t) = (a.X b t n : EReal)
  w : ∀ b b' n, w (ix2 b (row b' n)) = ((if b = b' then a.ws n else 0 : ℝ) : EReal)
  m1 : ∀ t' t, m1 (ix2 t' t) = (a.M t' t : EReal)
  co : ∀ t f, co (ix2 t f) = (a.C t f : EReal)
  si : ∀ t f, si (ix2 t f) = (a.S t f : EReal)
  rc : ∀ f t, rc (ix2 f t) = (a.RC f t : EReal)
  rs : ∀ f t, rs (ix2 f t) = (a.RS f t : EReal)
  wb : wb (ix2 0 0) = (a.wb : EReal)

variable {a x w m1 co si rc rs wb}
variable (H : Holds a x w m1 co si rc rs wb)
include H

theorem pay3_at (b : Fin 32) (n : Fin 321) (f : Fin 47) : k0_pay3 (F := Ideal) x co (ix2 (row b n) f) = (re a b n f : EReal) := by
  pointwise [k0_pay3, k0_pay2]
  simp only [H.x, H.co, ← EReal.coe_mul, ← coe_sum, zero_add]
  rfl

theorem pay4_at (b : Fin 32) (n : Fin 321) (f : Fin 47) : k0_pay4 (F := Ideal) x si (ix2 (row b n) f) = (im a b n f : EReal) := by
  pointwise [k0_pay4, k0_pay2]
  simp only [H.x, H.si, ← EReal.coe_mul, ← coe_sum, zero_add]
  rfl

theorem pay5_at (b : Fin 32) (n : Fin 321) (f : Fin 47) : k0_pay5 (F := Ideal) x co si (ix2 (row b n) f) = (mag a b n f : EReal) := by
  have h3 := pay3_at H b n f
  have h4 := pay4_at H b n f
  pointwise [k0_pay5]
  rw [h3, h4, ← EReal.coe_mul, ← EReal.coe_mul, ← EReal.coe_add]
  rw [Ideal.sqrt_coe, if_neg (not_lt.2 (add_nonneg (mul_self_nonneg _) (mul_self_nonneg _)))]
  rfl

omit H in
/-- The mask of the three searches. -/
def mask (w0 : FVec Ideal S10272x47 .f32) : FVec Ideal S10272x47 .f32 :=
  addf (addf (addf (broadcast S10272x47 (Scalar.ofBits .f32 0x00000000#32)) (sel47 w0)) (sel47 (kill47 (sel47 w0) w0)))
    (sel47 (kill47 (sel47 (kill47 (sel47 w0) w0)) (kill47 (sel47 w0) w0)))

omit H in
theorem mask_at (w0 : FVec Ideal S10272x47 .f32) (r : Fin 10272) (v : Fin 47 → EReal) (hv : ∀ f, v f ≠ ⊥) (h0 : ∀ f, w0 (ix2 r f) = v f) (f : Fin 47) :
    mask w0 (ix2 r f) = (((if f = top1 v then 1 else 0) + (if f = top2 v then 1 else 0) + (if f = top3 v then 1 else 0) : ℝ) : EReal) := by
  have hw0 : ∀ f, w0 (ix2 r f) = if f ∈ (∅ : Finset (Fin 47)) then ⊥ else v f := fun f => by rw [h0]; simp
  have s0 := sel47_at w0 r v ∅ (top1 v) (top1_isTop v) hv hw0
  have hw1 := kill47_at (sel47 w0) w0 r v ∅ (top1 v) s0 hw0
  have s1 := sel47_at (kill47 (sel47 w0) w0) r v (insert (top1 v) ∅) (top2 v) (top2_isTop v (by decide)) hv hw1
  have hw2 := kill47_at _ _ r v _ (top2 v) s1 hw1
  have s2 := sel47_at _ r v (insert (top2 v) (insert (top1 v) ∅)) (top3 v) (top3_isTop v (by decide)) hv hw2
  pointwise [mask]
  rw [s0, s1, s2]
  simp only [EReal.coe_add, apply_ite ((↑) : ℝ → EReal), EReal.coe_one, EReal.coe_zero]

omit H in
theorem series_eq : Loss.series (F := Ideal) x w m1 co si rc rs wb
    = addf (addf (matmul dot_S32x96_S96x96_S32x96_1_0_0_1_n_n (some .fp32) (matmul dot_S32x10272_S10272x96_S32x96_1_0_0_1_n_n (some .fp32) (shapeCast S32x10272 w shapeCasts_S32x10272_S32x10272) (k0_pay2 x) (constant S32x96 .f32 0x00000000#32)) m1 (constant S32x96 .f32 0x00000000#32))
        (mulf (broadcast S32x96 (Named.named κ "two_over_length" 0x3CAAAAAB#32))
          (addf (matmul dot_S32x47_S47x96_S32x96_1_0_0_1_n_n (some .fp32) (matmul dot_S32x10272_S10272x47_S32x47_1_0_0_1_n_n (some .fp32) (shapeCast S32x10272 w shapeCasts_S32x10272_S32x10272) (mulf (k0_pay3 x co) (mask (k0_pay5 x co si))) (constant S32x47 .f32 0x00000000#32)) rc (constant S32x96 .f32 0x00000000#32))
            (matmul dot_S32x47_S47x96_S32x96_1_0_0_1_n_n (some .fp32) (matmul dot_S32x10272_S10272x47_S32x47_1_0_0_1_n_n (some .fp32) (shapeCast S32x10272 w shapeCasts_S32x10272_S32x10272) (mulf (k0_pay4 x si) (mask (k0_pay5 x co si))) (constant S32x47 .f32 0x00000000#32)) rs (constant S32x96 .f32 0x00000000#32)))))
      (broadcastTo S32x96 (shapeCast S1x1 wb shapeCasts_S1x1_S1x1) broadcasts_S1x1_S32x96) := rfl

omit H in
theorem named_val : Named.named (F := Ideal) κ "two_over_length" (φ := .f32) 0x3CAAAAAB#32 = ((1 / 48 : ℝ) : EReal) :=
  IdealRules.named_const.ideal_named_scalar _ _ _ _ rfl

omit H in
theorem mm_x (A : FVec Ideal S32x10272 .f32) (B : FVec Ideal S10272x96 .f32) (b : Fin 32) (t : Fin 96) :
    matmul dot_S32x10272_S10272x96_S32x96_1_0_0_1_n_n (some .fp32) A B (constant S32x96 .f32 0x00000000#32) (ix2 b t) = ∑ r, A (ix2 b r) * B (ix2 r t) := by
  pointwise []

omit H in
theorem mm_f (A : FVec Ideal S32x10272 .f32) (B : FVec Ideal S10272x47 .f32) (b : Fin 32) (t : Fin 47) :
    matmul dot_S32x10272_S10272x47_S32x47_1_0_0_1_n_n (some .fp32) A B (constant S32x47 .f32 0x00000000#32) (ix2 b t) = ∑ r, A (ix2 b r) * B (ix2 r t) := by
  pointwise []

theorem series_at (b : Fin 32) (t : Fin 96) : Loss.series (F := Ideal) x w m1 co si rc rs wb (ix2 b t) = (mix a b t : EReal) := by
  have hx : ∀ t', matmul dot_S32x10272_S10272x96_S32x96_1_0_0_1_n_n (some .fp32) (shapeCast S32x10272 w shapeCasts_S32x10272_S32x10272) (k0_pay2 x) (constant S32x96 .f32 0x00000000#32) (ix2 b t') = ((∑ n, a.ws n * a.X b t' n : ℝ) : EReal) := fun t' => by
    rw [mm_x]
    exact sum_own a.ws b _ _ (fun b' n => a.X b' t' n) (fun b' n => by rw [shapeCast_self, H.w]) (fun b' n => by unfold k0_pay2; rw [shapeCast_self]; exact H.x b' n t')
  have hm : ∀ b' n f, mask (k0_pay5 x co si) (ix2 (row b' n) f) = _ := fun b' n f =>
    mask_at (k0_pay5 x co si) (row b' n) (fun f => (mag a b' n f : EReal)) (fun f => EReal.coe_ne_bot _) (fun f => pay5_at H b' n f) f
  have hre : ∀ f, matmul dot_S32x10272_S10272x47_S32x47_1_0_0_1_n_n (some .fp32) (shapeCast S32x10272 w shapeCasts_S32x10272_S32x10272) (mulf (k0_pay3 x co) (mask (k0_pay5 x co si))) (constant S32x47 .f32 0x00000000#32) (ix2 b f) = ((∑ n, a.ws n * (re a b n f * ∑ k, if f = freq a b n k then 1 else 0) : ℝ) : EReal) := fun f => by
    rw [mm_f]
    refine sum_own a.ws b _ _ (fun b' n => re a b' n f * ∑ k, if f = freq a b' n k then 1 else 0) (fun b' n => by rw [shapeCast_self, H.w]) (fun b' n => ?_)
    rw [mulf_apply, pay3_at H, hm, Fin.sum_univ_three]
    rfl
  have him : ∀ f, matmul dot_S32x10272_S10272x47_S32x47_1_0_0_1_n_n (some .fp32) (shapeCast S32x10272 w shapeCasts_S32x10272_S32x10272) (mulf (k0_pay4 x si) (mask (k0_pay5 x co si))) (constant S32x47 .f32 0x00000000#32) (ix2 b f) = ((∑ n, a.ws n * (im a b n f * ∑ k, if f = freq a b n k then 1 else 0) : ℝ) : EReal) := fun f => by
    rw [mm_f]
    refine sum_own a.ws b _ _ (fun b' n => im a b' n f * ∑ k, if f = freq a b' n k then 1 else 0) (fun b' n => by rw [shapeCast_self, H.w]) (fun b' n => ?_)
    rw [mulf_apply, pay4_at H, hm, Fin.sum_univ_three]
    rfl
  rw [series_eq]
  generalize matmul dot_S32x10272_S10272x96_S32x96_1_0_0_1_n_n (some .fp32) (shapeCast S32x10272 w shapeCasts_S32x10272_S32x10272) (k0_pay2 x) (constant S32x96 .f32 0x00000000#32) = A at hx ⊢
  generalize matmul dot_S32x10272_S10272x47_S32x47_1_0_0_1_n_n (some .fp32) (shapeCast S32x10272 w shapeCasts_S32x10272_S32x10272) (mulf (k0_pay3 x co) (mask (k0_pay5 x co si))) (constant S32x47 .f32 0x00000000#32) = R at hre ⊢
  generalize matmul dot_S32x10272_S10272x47_S32x47_1_0_0_1_n_n (some .fp32) (shapeCast S32x10272 w shapeCasts_S32x10272_S32x10272) (mulf (k0_pay4 x si) (mask (k0_pay5 x co si))) (constant S32x47 .f32 0x00000000#32) = I at him ⊢
  pointwise []
  simp only [hx, hre, him, H.m1, H.rc, H.rs, H.wb, named_val, ← EReal.coe_mul, ← coe_sum, ← EReal.coe_add]
  rw [sum_mask, sum_mask, sum_swap]
  congr 1
  unfold mix season wave
  rw [← Finset.sum_add_distrib, Finset.mul_sum, ← Finset.sum_add_distrib]
  congr 1
  refine Finset.sum_congr rfl fun n _ => ?_
  rw [Finset.sum_add_distrib]
  ring

omit H in
theorem logit_at (s : FVec Ideal S32x96 .f32) (wg : FVec Ideal S96x4 .f32) (gb : FVec Ideal S1x4 .f32) (hs : ∀ b t, s (ix2 b t) = (mix a b t : EReal))
    (hwg : ∀ t e, wg (ix2 t e) = (a.wg e t : EReal)) (hgb : ∀ e, gb (ix2 0 e) = (a.gb e : EReal)) (b : Fin 32) (e : Fin 4) :
    k0_pay11 s wg gb (ix2 b e) = (logit a b e : EReal) := by
  pointwise [k0_pay11]
  simp only [hs, hwg, hgb, ← EReal.coe_mul, ← coe_sum, ← EReal.coe_add, zero_add]
  rfl

end Cert.Series

end
end
-- ==== Proof.Math.Table0.lean ====
/- The constant tables of the kernel and of the reference hold the same finite words. -/
module

public import proofs.«01_k».proof.KernelIdeal
public import proofs.«01_k».proof.ReferenceIdeal

@[expose] public section

namespace Cert.Tables

/-- The exponent is not all ones: the word is no infinity and no NaN. -/
def good (b : BitVec 32) : Bool := (b.extractLsb' 23 8).toNat != 255

/-- Table 0 at each position. -/
theorem lit0_ok : ∀ i : Fin 9216, (Cert.KernelIdeal.lit0 i == Cert.ReferenceIdeal.lit0 i && good (Cert.KernelIdeal.lit0 i)) = true := by
  decide +kernel

end Cert.Tables

end
-- ==== Proof.Math.Table1.lean ====
/- The constant tables of the kernel and of the reference hold the same finite words. -/
module

public import proofs.«01_k».proof.KernelIdeal
public import proofs.«01_k».proof.ReferenceIdeal

@[expose] public section

namespace Cert.Tables

/-- The exponent is not all ones: the word is no infinity and no NaN. -/
def good1 (b : BitVec 32) : Bool := (b.extractLsb' 23 8).toNat != 255

/-- Table 1 at each position. -/
theorem lit1_ok : ∀ i : Fin 4512, (Cert.KernelIdeal.lit1 i == Cert.ReferenceIdeal.lit1 i && good1 (Cert.KernelIdeal.lit1 i)) = true := by
  decide +kernel

/-- Table 2 at each position. -/
theorem lit2_ok : ∀ i : Fin 4512, (Cert.KernelIdeal.lit2 i == Cert.ReferenceIdeal.lit2 i && good1 (Cert.KernelIdeal.lit2 i)) = true := by
  decide +kernel

end Cert.Tables

end
-- ==== Proof.Math.Table3.lean ====
/- The constant tables of the kernel and of the reference hold the same finite words. -/
module

public import proofs.«01_k».proof.KernelIdeal
public import proofs.«01_k».proof.ReferenceIdeal

@[expose] public section

namespace Cert.Tables

/-- The exponent is not all ones: the word is no infinity and no NaN. -/
def good3 (b : BitVec 32) : Bool := (b.extractLsb' 23 8).toNat != 255

/-- Table 3 at each position. -/
theorem lit3_ok : ∀ i : Fin 4512, (Cert.KernelIdeal.lit3 i == Cert.ReferenceIdeal.lit3 i && good3 (Cert.KernelIdeal.lit3 i)) = true := by
  decide +kernel

/-- Table 4 at each position. -/
theorem lit4_ok : ∀ i : Fin 4512, (Cert.KernelIdeal.lit4 i == Cert.ReferenceIdeal.lit4 i && good3 (Cert.KernelIdeal.lit4 i)) = true := by
  decide +kernel

end Cert.Tables

end
-- ==== Proof.Math.Tables.lean ====
/- The constant tables as arrays of reals. -/
module

public import proofs.«01_k».proof.Proof.Math.Table0
public import proofs.«01_k».proof.Proof.Math.Table1
public import proofs.«01_k».proof.Proof.Math.Table3
public import Idealize.ShloMosaic.PureOps.Ideal

@[expose] public section

namespace Cert.Tables

open Idealize.ShloMosaic

theorem coe_of_good (b : BitVec 32) (h : good b = true) : ∃ r : ℝ, Ideal.ofBits .f32 b = (r : EReal) := by
  have h' : ¬ (b.extractLsb' 23 8).toNat = 2 ^ 8 - 1 := by simpa [good] using h
  show ∃ r : ℝ, Ideal.ieee 8 23 b = (r : EReal)
  unfold Ideal.ieee
  simp only [if_neg h']
  split
  · exact ⟨_, rfl⟩
  · exact ⟨_, rfl⟩

theorem lit0_eq (i : Fin 9216) : Cert.KernelIdeal.lit0 i = Cert.ReferenceIdeal.lit0 i := by
  have h := lit0_ok i
  simp only [Bool.and_eq_true, beq_iff_eq] at h
  exact h.1

theorem lit0_real (i : Fin 9216) : ∃ r : ℝ, Ideal.ofBits .f32 (Cert.ReferenceIdeal.lit0 i) = (r : EReal) := by
  have h := lit0_ok i
  simp only [Bool.and_eq_true, beq_iff_eq] at h
  rw [← h.1]
  exact coe_of_good _ h.2

theorem lit1_eq (i : Fin 4512) : Cert.KernelIdeal.lit1 i = Cert.ReferenceIdeal.lit1 i := by
  have h := lit1_ok i
  simp only [Bool.and_eq_true, beq_iff_eq] at h
  exact h.1

theorem lit1_real (i : Fin 4512) : ∃ r : ℝ, Ideal.ofBits .f32 (Cert.ReferenceIdeal.lit1 i) = (r : EReal) := by
  have h := lit1_ok i
  simp only [Bool.and_eq_true, beq_iff_eq] at h
  rw [← h.1]
  exact coe_of_good _ h.2

theorem lit2_eq (i : Fin 4512) : Cert.KernelIdeal.lit2 i = Cert.ReferenceIdeal.lit2 i := by
  have h := lit2_ok i
  simp only [Bool.and_eq_true, beq_iff_eq] at h
  exact h.1

theorem lit2_real (i : Fin 4512) : ∃ r : ℝ, Ideal.ofBits .f32 (Cert.ReferenceIdeal.lit2 i) = (r : EReal) := by
  have h := lit2_ok i
  simp only [Bool.and_eq_true, beq_iff_eq] at h
  rw [← h.1]
  exact coe_of_good _ h.2

theorem lit3_eq (i : Fin 4512) : Cert.KernelIdeal.lit3 i = Cert.ReferenceIdeal.lit3 i := by
  have h := lit3_ok i
  simp only [Bool.and_eq_true, beq_iff_eq] at h
  exact h.1

theorem lit3_real (i : Fin 4512) : ∃ r : ℝ, Ideal.ofBits .f32 (Cert.ReferenceIdeal.lit3 i) = (r : EReal) := by
  have h := lit3_ok i
  simp only [Bool.and_eq_true, beq_iff_eq] at h
  rw [← h.1]
  exact coe_of_good _ h.2

theorem lit4_eq (i : Fin 4512) : Cert.KernelIdeal.lit4 i = Cert.ReferenceIdeal.lit4 i := by
  have h := lit4_ok i
  simp only [Bool.and_eq_true, beq_iff_eq] at h
  exact h.1

theorem lit4_real (i : Fin 4512) : ∃ r : ℝ, Ideal.ofBits .f32 (Cert.ReferenceIdeal.lit4 i) = (r : EReal) := by
  have h := lit4_ok i
  simp only [Bool.and_eq_true, beq_iff_eq] at h
  rw [← h.1]
  exact coe_of_good _ h.2

end Cert.Tables

end
-- ==== Proof.Math.Tail.lean ====
/-
  The gating body from the logits on: the two experts, their gates and the loss.
-/
module

public import proofs.«01_k».proof.Proof.Math.Series

@[expose] public section

noncomputable section

namespace Cert.Tail

open Cert.KernelIdeal Cert.KernelIdeal.Gen
open Idealize.ShloMosaic
open Cert.Math Cert.Spec Cert.Search

/-- The greatest of the entries left is the first greatest's value. -/
theorem fold_max_eq {n : ℕ} (v w : Fin n → EReal) (S : Finset (Fin n)) (i : Fin n) (hi : IsTop v S i)
    (hw : ∀ f, w f = if f ∈ S then ⊥ else v f) : (Finset.univ : Finset (Fin n)).fold max ⊥ w = v i := by
  refine le_antisymm ?_ ?_
  · rw [Finset.fold_max_le]
    refine ⟨bot_le, fun f _ => ?_⟩
    rw [hw]
    split
    · exact bot_le
    · next h => exact hi.le h
  · rw [Finset.le_fold_max]
    exact Or.inr ⟨i, Finset.mem_univ _, by rw [hw, if_neg hi.1]⟩

variable (a : Args) (s : FVec Ideal S32x96 .f32) (wg : FVec Ideal S96x4 .f32) (gb : FVec Ideal S1x4 .f32)

theorem pay13_eq : k0_pay13 (F := Ideal) s wg gb = sel4 (k0_pay11 s wg gb) := rfl
theorem pay14_eq : k0_pay14 (F := Ideal) s wg gb = kill4 (sel4 (k0_pay11 s wg gb)) (k0_pay11 s wg gb) := rfl
theorem pay16_eq : k0_pay16 (F := Ideal) s wg gb = sel4 (k0_pay14 s wg gb) := rfl

variable {a s wg gb}
variable (hL : ∀ b e, k0_pay11 (F := Ideal) s wg gb (ix2 b e) = (logit a b e : EReal))
include hL

theorem w0 (b : Fin 32) (e : Fin 4) : k0_pay11 (F := Ideal) s wg gb (ix2 b e) = if e ∈ (∅ : Finset (Fin 4)) then ⊥ else (logit a b e : EReal) := by
  rw [hL]; simp

theorem sel1_at (b : Fin 32) (e : Fin 4) : k0_pay13 (F := Ideal) s wg gb (ix2 b e) = if e = i1 a b then (1 : EReal) else 0 := by
  rw [pay13_eq]
  exact sel4_at _ b (fun e => (logit a b e : EReal)) ∅ _ (top1_isTop _) (fun _ => EReal.coe_ne_bot _) (w0 hL b) e

theorem left_at (b : Fin 32) (e : Fin 4) : k0_pay14 (F := Ideal) s wg gb (ix2 b e) = if e ∈ ({i1 a b} : Finset (Fin 4)) then ⊥ else (logit a b e : EReal) := by
  rw [pay14_eq]
  exact kill4_at _ _ b (fun e => (logit a b e : EReal)) ∅ _ (sel1_at hL b) (w0 hL b) e

theorem sel2_at (b : Fin 32) (e : Fin 4) : k0_pay16 (F := Ideal) s wg gb (ix2 b e) = if e = i2 a b then (1 : EReal) else 0 := by
  rw [pay16_eq]
  exact sel4_at _ b (fun e => (logit a b e : EReal)) _ _ (top2_isTop _ (by decide)) (fun _ => EReal.coe_ne_bot _) (left_at hL b) e

theorem max1_at (b : Fin 32) : k0_pay12 (F := Ideal) s wg gb (ix2 b 0) = (logit a b (i1 a b) : EReal) := by
  have h := fold_max_eq (fun e => (logit a b e : EReal)) (fun e => k0_pay11 (F := Ideal) s wg gb (ix2 b e)) ∅ _ (top1_isTop _) (w0 hL b)
  pointwise [k0_pay12]
  rw [negInf]
  exact h

theorem max2_at (b : Fin 32) : k0_pay15 (F := Ideal) s wg gb (ix2 b 0) = (logit a b (i2 a b) : EReal) := by
  have h := fold_max_eq (fun e => (logit a b e : EReal)) (fun e => k0_pay14 (F := Ideal) s wg gb (ix2 b e)) _ _ (top2_isTop _ (by decide)) (left_at hL b)
  pointwise [k0_pay15]
  rw [negInf]
  exact h

theorem ratio_at (b : Fin 32) : k0_pay17 (F := Ideal) s wg gb (ix2 b 0) = (ratio a b : EReal) := by
  have h1 := max1_at hL b
  have h2 := max2_at hL b
  pointwise [k0_pay17]
  rw [h1, h2, ← EReal.coe_sub, Ideal.exp_coe]
  rfl

theorem den_at (b : Fin 32) : k0_pay18 (F := Ideal) s wg gb (ix2 b 0) = ((1 + ratio a b : ℝ) : EReal) := by
  have h := ratio_at hL b
  pointwise [k0_pay18]
  rw [h, EReal.coe_add, EReal.coe_one]

theorem den_ne (b : Fin 32) : (1 + ratio a b : ℝ) ≠ 0 := (add_pos one_pos (ratio_pos a b)).ne'

theorem g1_at (b : Fin 32) : k0_pay19 (F := Ideal) s wg gb (ix2 b 0) = (g1 a b : EReal) := by
  have h := den_at hL b
  pointwise [k0_pay19]
  rw [h, Ideal.div_coe (den_ne hL b), one_mul]
  rfl

theorem g2_at (b : Fin 32) : k0_pay20 (F := Ideal) s wg gb (ix2 b 0) = (g2 a b : EReal) := by
  have h := den_at hL b
  have h' := ratio_at hL b
  pointwise [k0_pay20]
  rw [h, h', Ideal.div_coe (den_ne hL b), ← EReal.coe_mul, mul_one_div]
  rfl

theorem imp_at (e : Fin 4) :
    (∑ b, (k0_pay13 (F := Ideal) s wg gb (ix2 b e) * k0_pay19 (F := Ideal) s wg gb (ix2 b 0) + k0_pay16 (F := Ideal) s wg gb (ix2 b e) * k0_pay20 (F := Ideal) s wg gb (ix2 b 0)))
      = ∑ b, (gate a b e : EReal) := by
  refine Finset.sum_congr rfl fun b _ => ?_
  rw [sel1_at hL, sel2_at hL, g1_at hL, g2_at hL]
  unfold gate
  rw [EReal.coe_add]
  congr 1 <;> split <;> simp

theorem load_at (e : Fin 4) : k0_pay22 (F := Ideal) (k0_pay13 s wg gb) (k0_pay16 s wg gb) (k0_pay19 s wg gb) (k0_pay20 s wg gb) (ix2 0 e) = ∑ b, (hit a b e : EReal) := by
  pointwise [k0_pay22]
  simp only [sel1_at hL, sel2_at hL, g1_at hL, g2_at hL]
  refine Finset.sum_congr rfl fun b _ => ?_
  rw [decide_eq_true (EReal.coe_pos.2 (g1_pos a b)), decide_eq_true (EReal.coe_pos.2 (g2_pos a b))]
  rw [show BitVec.ofBool true = 1#1 from rfl, sitofp_one, mul_one, mul_one]
  unfold hit
  rw [EReal.coe_add]
  congr 1 <;> split <;> simp

theorem loss_at : Cert.KernelIdeal.Loss.lossOf (F := Ideal) s wg gb (ix2 0 0) = loss a := by
  have hl := load_at hL
  have hi := imp_at hL
  unfold Cert.KernelIdeal.Loss.lossOf
  pointwise [k0_pay1, k0_pay23, k0_pay24]
  simp only [hi, hl, Finset.univ_unique, Finset.sum_singleton]
  rfl

end Cert.Tail

end
end
-- ==== Proof.Finite.lean ====
/- The precondition: every entry that reaches the gate is a real number. -/
module

public import proofs.«01_k».proof.Pre_finite
public import proofs.«01_k».proof.Proof.Math.Spec
public import proofs.«01_k».proof.Proof.Math.Tables
public import Idealize.ShloMosaic.Lib.Pointwise

@[expose] public section

noncomputable section

namespace Cert.Finite

open Idealize.ShloMosaic
open Cert.Pre_finite

instance facts : Cert.Pre_finite.Facts where
  slices_S32x96x321x16_S32x96x321x1_0_0_0_0 := by decide
  shapeCasts_S32x96x321x1_S32x96x321 := by decide
  bcast_S_S32x96x321 := by decide
  bcast_S_S1x321 := by decide
  bcast_S_S1 := by decide
  bcast_S_S4x96 := by decide
  bcast_S_S4 := by decide

theorem inf_val : Ideal.ofBits .f32 0x7F800000#32 = (⊤ : EReal) := by
  simp [Ideal.ofBits, Ideal.ieee]

theorem real_of_lt (x : EReal) (h : BitVec.ofBool (decide (max x (-x) < Ideal.ofBits .f32 0x7F800000#32)) = 1#1) : x = (x.toReal : EReal) := by
  rw [inf_val] at h
  have h' : max x (-x) < ⊤ := by
    by_contra hc
    rw [decide_eq_false hc] at h
    exact absurd h (by decide)
  refine (EReal.coe_toReal ?_ ?_).symm
  · rintro rfl
    exact absurd h' (by simp)
  · rintro rfl
    exact absurd h' (by simp)

theorem real_of_pre {s : Shape} (hb : S_.BroadcastsInDim s (![] : Fin 0 → Fin s.rank)) (x : FVec Ideal s .f32)
    (h : cmpf .olt (Host.absf x) (broadcastInDim s ![] hb (constant S_ .f32 0x7F800000#32)) = fun _ => 1#1) (i : s.Idx) :
    x i = ((EReal.toReal (x i) : ℝ) : EReal) :=
  real_of_lt (x i) (congrFun h i)

/-- The first channel of the input, as the precondition takes it. -/
theorem channel_at (x : FVec Ideal S32x96x321x16 .f32) (b : Fin 32) (t : Fin 96) (n : Fin 321) :
    (shapeCast S32x96x321 (extractStridedSlice S32x96x321x1 ![0, 0, 0, 0] x facts.slices_S32x96x321x16_S32x96x321x1_0_0_0_0)
      facts.shapeCasts_S32x96x321x1_S32x96x321) (ix3 b t n) = x (ix4 b t n 0) := by
  pointwise []

/-- The arguments and tables of a run as real numbers. -/
def args (x : FVec Ideal S32x96x321x16 .f32) (w2 : FVec Ideal S1x321 .f32) (w3 : FVec Ideal S1 .f32) (w4 : FVec Ideal S4x96 .f32)
    (w5 : FVec Ideal S4 .f32) : Cert.Spec.Args where
  X b t n := EReal.toReal (x (ix4 b t n 0))
  M i j := EReal.toReal (Ideal.ofBits .f32 (Cert.ReferenceIdeal.lit0 (Cert.ReferenceIdeal.S96x96.rowMajor (ix2 i j))))
  C t f := EReal.toReal (Ideal.ofBits .f32 (Cert.ReferenceIdeal.lit1 (Cert.ReferenceIdeal.S96x47.rowMajor (ix2 t f))))
  S t f := EReal.toReal (Ideal.ofBits .f32 (Cert.ReferenceIdeal.lit2 (Cert.ReferenceIdeal.S96x47.rowMajor (ix2 t f))))
  RC f t := EReal.toReal (Ideal.ofBits .f32 (Cert.ReferenceIdeal.lit3 (Cert.ReferenceIdeal.S47x96.rowMajor (ix2 f t))))
  RS f t := EReal.toReal (Ideal.ofBits .f32 (Cert.ReferenceIdeal.lit4 (Cert.ReferenceIdeal.S47x96.rowMajor (ix2 f t))))
  ws n := EReal.toReal (w2 (ix2 0 n))
  wb := EReal.toReal (w3 (ix1 0))
  wg e t := EReal.toReal (w4 (ix2 e t))
  gb e := EReal.toReal (w5 (ix1 e))

theorem toReal_of_exists {x : EReal} (h : ∃ r : ℝ, x = (r : EReal)) : x = (x.toReal : EReal) := by
  obtain ⟨r, rfl⟩ := h
  rw [EReal.toReal_coe]

end Cert.Finite
-- ==== Proof.KernelIdeal.Host.lean ====
/- What the gating kernel is given: the host's arrays, read at their indices. -/
module

public import proofs.«01_k».proof.Proof.KernelIdeal.Run
public import proofs.«01_k».proof.Proof.Math.Series
public import proofs.«01_k».proof.Proof.Math.Tables
public import proofs.«01_k».proof.Proof.Math.Tail
public import proofs.«01_k».proof.Proof.Finite
public import Idealize.ShloMosaic.Lib.StableHlo.ReadAt

@[expose] public section

set_option maxRecDepth 16384
noncomputable section

namespace Cert.KernelIdeal.Host

open Cert.KernelIdeal Cert.KernelIdeal.Gen Cert.KernelIdeal.Regs
open Idealize.ShloMosaic
open Cert.Math Cert.Spec

variable (m : (ℓ : Loc nD τ sig) → Buf (Elt Ideal) ℓ) (c : Dev nD)

theorem eye_at (b b' : Fin 32) :
    FloatOps.uitofp (F := Ideal) FTy.f32 (IntOp.cmpi CmpIPredicate.eq (IntOp.addi (BitVec.ofNat 32 b.val) 0#32) (BitVec.ofNat 32 b'.val))
      = (if b = b' then 1 else 0 : EReal) := by
  have e : IntOp.addi (BitVec.ofNat 32 b.val) 0#32 = BitVec.ofNat 32 b.val := by simp [IntOp.addi]
  rw [e]
  by_cases h : b = b'
  · subst h
    have e : IntOp.cmpi CmpIPredicate.eq (BitVec.ofNat 32 b.val) (BitVec.ofNat 32 b.val) = 1#1 := by simp [IntOp.cmpi]
    rw [e, if_pos rfl]
    show (((1#1 : BitVec 1).toNat : ℝ) : EReal) = 1
    norm_num
  · have h' : BitVec.ofNat 32 b.val ≠ BitVec.ofNat 32 b'.val := fun hh => h (Fin.ext (ofNat_inj (by omega) (by omega) hh))
    have e : IntOp.cmpi CmpIPredicate.eq (BitVec.ofNat 32 b.val) (BitVec.ofNat 32 b'.val) = 0#1 := by
      show BitVec.ofBool (BitVec.ofNat 32 b.val == BitVec.ofNat 32 b'.val) = 0#1
      rw [beq_false_of_ne h']; rfl
    rw [e, if_neg h]
    show (((0#1 : BitVec 1).toNat : ℝ) : EReal) = 0
    norm_num

theorem v3_at (b : Fin 32) (n : Fin 321) (t : Fin 96) :
    V1 m c (Proc.devRef .tc main_v3) (ix2 (Cert.Series.row b n) t) = m (c, Proc.devRef .tc main_arg0) (ix4 b t n 0) := by
  unfold V1 hostOps0
  after_reads_at
  refine congrArg (m (c, Proc.devRef .tc main_arg0)) (congrArg₂ (fun b n => ix4 b t n 0) (Fin.ext ?_) (Fin.ext ?_))
  · show (b.val * 321 + n.val) / 321 = b.val; omega
  · show (b.val * 321 + n.val) % 321 = n.val; omega

theorem v16_at (b b' : Fin 32) (n : Fin 321) :
    V1 m c (Proc.devRef .tc main_v16) (ix2 b (Cert.Series.row b' n)) = ((if b = b' then 1 else 0 : EReal) * (m (c, Proc.devRef .tc main_arg2) (ix2 0 n) : EReal) : EReal) := by
  unfold V1 hostOps0
  after_reads_at
  refine congrArg₂ (fun x y : EReal => x * y) ?_ (congrArg (m (c, Proc.devRef .tc main_arg2)) (congrArg (fun n => ix2 0 n) (Fin.ext ?_)))
  · rw [show (Cert.Series.row b' n).val / 321 = b'.val from by show (b'.val * 321 + n.val) / 321 = b'.val; omega]
    rw [eye_at]
  · show (b'.val * 321 + n.val) % 321 = n.val; omega

theorem v17_at (e : Fin 4) (t : Fin 96) :
    V1 m c (Proc.devRef .tc main_v17) (ix2 t e) = m (c, Proc.devRef .tc main_arg4) (ix2 e t) := by
  unfold V1 hostOps0
  after_reads_at

theorem v18_at (e : Fin 4) :
    V1 m c (Proc.devRef .tc main_v18) (ix2 0 e) = m (c, Proc.devRef .tc main_arg5) (ix1 e) := by
  unfold V1 hostOps0
  after_reads_at

theorem v19_at : V1 m c (Proc.devRef .tc main_v19) (ix2 0 0) = m (c, Proc.devRef .tc main_arg3) (ix1 0) := by
  unfold V1 hostOps0
  after_reads_at

theorem m1_at (i : Fin 96) (j : Fin 96) : V1 m c (Proc.devRef .tc main_cst) (ix2 i j) = Ideal.ofBits .f32 (Cert.ReferenceIdeal.lit0 (Cert.ReferenceIdeal.S96x96.rowMajor (ix2 i j))) := by
  have e : V1 m c (Proc.devRef .tc main_cst) (ix2 i j) = Ideal.ofBits .f32 (Cert.KernelIdeal.lit0 (S96x96.rowMajor (ix2 i j))) := by
    unfold V1 hostOps0
    after_reads_at
  exact e.trans (congrArg (Ideal.ofBits .f32) (Cert.Tables.lit0_eq _))

theorem co_at (t : Fin 96) (f : Fin 47) : V1 m c (Proc.devRef .tc main_cst_0) (ix2 t f) = Ideal.ofBits .f32 (Cert.ReferenceIdeal.lit1 (Cert.ReferenceIdeal.S96x47.rowMajor (ix2 t f))) := by
  have e : V1 m c (Proc.devRef .tc main_cst_0) (ix2 t f) = Ideal.ofBits .f32 (Cert.KernelIdeal.lit1 (S96x47.rowMajor (ix2 t f))) := by
    unfold V1 hostOps0
    after_reads_at
  exact e.trans (congrArg (Ideal.ofBits .f32) (Cert.Tables.lit1_eq _))

theorem si_at (t : Fin 96) (f : Fin 47) : V1 m c (Proc.devRef .tc main_cst_1) (ix2 t f) = Ideal.ofBits .f32 (Cert.ReferenceIdeal.lit2 (Cert.ReferenceIdeal.S96x47.rowMajor (ix2 t f))) := by
  have e : V1 m c (Proc.devRef .tc main_cst_1) (ix2 t f) = Ideal.ofBits .f32 (Cert.KernelIdeal.lit2 (S96x47.rowMajor (ix2 t f))) := by
    unfold V1 hostOps0
    after_reads_at
  exact e.trans (congrArg (Ideal.ofBits .f32) (Cert.Tables.lit2_eq _))

theorem rc_at (f : Fin 47) (t : Fin 96) : V1 m c (Proc.devRef .tc main_cst_2) (ix2 f t) = Ideal.ofBits .f32 (Cert.ReferenceIdeal.lit3 (Cert.ReferenceIdeal.S47x96.rowMajor (ix2 f t))) := by
  have e : V1 m c (Proc.devRef .tc main_cst_2) (ix2 f t) = Ideal.ofBits .f32 (Cert.KernelIdeal.lit3 (S47x96.rowMajor (ix2 f t))) := by
    unfold V1 hostOps0
    after_reads_at
  exact e.trans (congrArg (Ideal.ofBits .f32) (Cert.Tables.lit3_eq _))

theorem rs_at (f : Fin 47) (t : Fin 96) : V1 m c (Proc.devRef .tc main_cst_3) (ix2 f t) = Ideal.ofBits .f32 (Cert.ReferenceIdeal.lit4 (Cert.ReferenceIdeal.S47x96.rowMajor (ix2 f t))) := by
  have e : V1 m c (Proc.devRef .tc main_cst_3) (ix2 f t) = Ideal.ofBits .f32 (Cert.KernelIdeal.lit4 (S47x96.rowMajor (ix2 f t))) := by
    unfold V1 hostOps0
    after_reads_at
  exact e.trans (congrArg (Ideal.ofBits .f32) (Cert.Tables.lit4_eq _))

/-- The argument arrays are real numbers. -/
structure Reals : Prop where
  x : ∀ b t n, (m (c, Proc.devRef .tc main_arg0) (ix4 b t n 0) : EReal) = ((EReal.toReal (m (c, Proc.devRef .tc main_arg0) (ix4 b t n 0)) : ℝ) : EReal)
  ws : ∀ i, (m (c, Proc.devRef .tc main_arg2) i : EReal) = ((EReal.toReal (m (c, Proc.devRef .tc main_arg2) i) : ℝ) : EReal)
  wb : ∀ i, (m (c, Proc.devRef .tc main_arg3) i : EReal) = ((EReal.toReal (m (c, Proc.devRef .tc main_arg3) i) : ℝ) : EReal)
  wg : ∀ i, (m (c, Proc.devRef .tc main_arg4) i : EReal) = ((EReal.toReal (m (c, Proc.devRef .tc main_arg4) i) : ℝ) : EReal)
  gb : ∀ i, (m (c, Proc.devRef .tc main_arg5) i : EReal) = ((EReal.toReal (m (c, Proc.devRef .tc main_arg5) i) : ℝ) : EReal)

/-- The kernel's arguments as real numbers. -/
abbrev reals : Args := Cert.Finite.args (m (c, Proc.devRef .tc main_arg0)) (m (c, Proc.devRef .tc main_arg2)) (m (c, Proc.devRef .tc main_arg3))
  (m (c, Proc.devRef .tc main_arg4)) (m (c, Proc.devRef .tc main_arg5))

variable {m c}
variable (h : Reals m c)
include h

theorem holds : Cert.Series.Holds (reals m c) (V1 m c (Proc.devRef .tc main_v3)) (V1 m c (Proc.devRef .tc main_v16)) (V1 m c (Proc.devRef .tc main_cst))
    (V1 m c (Proc.devRef .tc main_cst_0)) (V1 m c (Proc.devRef .tc main_cst_1)) (V1 m c (Proc.devRef .tc main_cst_2)) (V1 m c (Proc.devRef .tc main_cst_3))
    (V1 m c (Proc.devRef .tc main_v19)) where
  x b n t := (v3_at m c b n t).trans (h.x b t n)
  w b b' n := by
    refine (v16_at m c b b' n).trans ?_
    rw [h.ws]
    by_cases e : b = b'
    · rw [if_pos e, if_pos e, one_mul]; rfl
    · rw [if_neg e, if_neg e, zero_mul, EReal.coe_zero]
  m1 i j := (m1_at m c i j).trans (Cert.Finite.toReal_of_exists (Cert.Tables.lit0_real _))
  co t f := (co_at m c t f).trans (Cert.Finite.toReal_of_exists (Cert.Tables.lit1_real _))
  si t f := (si_at m c t f).trans (Cert.Finite.toReal_of_exists (Cert.Tables.lit2_real _))
  rc f t := (rc_at m c f t).trans (Cert.Finite.toReal_of_exists (Cert.Tables.lit3_real _))
  rs f t := (rs_at m c f t).trans (Cert.Finite.toReal_of_exists (Cert.Tables.lit4_real _))
  wb := (v19_at m c).trans (h.wb _)

/-- The kernel's second result is the balance loss of the specification. -/
theorem v22_at (i : S_.Idx) : V4 m (outs m) c (Proc.devRef .tc main_v22) i = loss (reals m c) := by
  have hl := Cert.Tail.loss_at (Cert.Series.logit_at _ _ _ (Cert.Series.series_at (holds h)) (fun t e => (v17_at m c e t).trans (h.wg _)) (fun e => (v18_at m c e).trans (h.gb _)))
  have hv : V4 m (outs m) c (Proc.devRef .tc main_v22) = shapeCast S_ (V3 m (outs m) c (Proc.devRef .tc main_v20_1)) shapeCasts_S1x1_S_ := by
    unfold V4 hostOps2
    after_reads_simp
    rfl
  have h3 : V3 m (outs m) c (Proc.devRef .tc main_v20_1) = Gate.out11 (fun c b => V1 m c (Proc.devRef .tc b)) c := (V3_of m (outs m) c main_v20_1 (by decide)).trans (V2_11 m c)
  rw [hv, h3, Cert.KernelIdeal.Loss.out11_eq]
  pointwise []
  exact hl

end Cert.KernelIdeal.Host
-- ==== Proof.Math.Sorted.lean ====
/- Where a stable descending sort puts the strongest entries. -/
module

public import proofs.«01_k».proof.Proof.Math.Spec
public import Idealize.ShloMosaic.Lib.Pointwise
public import Idealize.ShloMosaic.Lib.SortFacts

@[expose] public section

noncomputable section

namespace Cert.Math

open Idealize.ShloMosaic
open Cert.Spec

/-- The sort's comparison of two real numbers. -/
theorem gt_total (x y : ℝ) :
    (FloatOps.cmpfTotal (F := Ideal) (φ := .f32) .gt (x : EReal) (y : EReal) == 1#1) = decide ((y : EReal) < (x : EReal)) := by
  rw [Ideal.cmpfTotal_def]
  show (BitVec.ofBool (decide ((y : EReal) < (x : EReal))) == 1#1) = _
  by_cases h : (y : EReal) < (x : EReal) <;> simp [h]

/-- The three strongest entries are where a stable descending sort puts its first three. -/
theorem sorted_tops {n : ℕ} [NeZero n] (v : Fin n → EReal) (R : Fin n → Fin n → Bool) (hR : ∀ a b, R a b = decide (v b < v a)) (hn : 2 < n) :
    sortedFrom R ⟨0, by omega⟩ = top1 v ∧ sortedFrom R ⟨1, by omega⟩ = top2 v ∧ sortedFrom R ⟨2, hn⟩ = top3 v := by
  have h0 : sortedFrom R ⟨0, by omega⟩ = top1 v := by
    refine IsTop.unique (S := ∅) ?_ (top1_isTop v)
    have h := isTop_sortedFrom v R hR ⟨0, by omega⟩
    refine Eq.mp (congrArg (fun S => IsTop v S _) (Finset.ext fun i => ?_)) h
    simp only [Finset.notMem_empty, Finset.mem_filter, Finset.mem_univ, true_and, iff_false]
    rintro ⟨l, hl, -⟩
    exact absurd hl (Nat.not_lt_zero _)
  have h1 : sortedFrom R ⟨1, by omega⟩ = top2 v := by
    refine IsTop.unique (S := {top1 v}) ?_ (top2_isTop v (by omega))
    have h := isTop_sortedFrom v R hR ⟨1, by omega⟩
    refine Eq.mpr (congrArg (fun S => IsTop v S _) (Finset.ext fun i => ?_)) h
    simp only [Finset.mem_singleton, Finset.mem_filter, Finset.mem_univ, true_and]
    constructor
    · rintro rfl
      exact ⟨⟨0, by omega⟩, Nat.zero_lt_one, h0⟩
    · rintro ⟨l, hl, rfl⟩
      rw [← h0]
      congr 1
      exact Fin.ext (by have : l.val < 1 := hl; show l.val = 0; omega)
  refine ⟨h0, h1, IsTop.unique (S := {top2 v, top1 v}) ?_ (top3_isTop v hn)⟩
  have h := isTop_sortedFrom v R hR ⟨2, hn⟩
  refine Eq.mpr (congrArg (fun S => IsTop v S _) (Finset.ext fun i => ?_)) h
  simp only [Finset.mem_insert, Finset.mem_singleton, Finset.mem_filter, Finset.mem_univ, true_and]
  constructor
  · rintro (rfl | rfl)
    · exact ⟨⟨1, by omega⟩, Nat.one_lt_two, h1⟩
    · exact ⟨⟨0, by omega⟩, Nat.zero_lt_two, h0⟩
  · rintro ⟨l, hl, rfl⟩
    have hl' : l.val < 2 := hl
    by_cases e : l.val = 0
    · right; rw [← h0]; congr 1; exact Fin.ext e
    · left; rw [← h1]; congr 1; exact Fin.ext (by show l.val = 1; omega)

end Cert.Math
-- ==== Proof.Reference.Gather.lean ====
/- The reference's gathers, read at an index. -/
module

public import proofs.«01_k».proof.Proof.Gen.ReferenceIdeal.Run
public import proofs.«01_k».proof.Proof.Math.Select
public import Idealize.ShloMosaic.Lib.Pointwise

@[expose] public section

noncomputable section

namespace Cert.Reference

open Cert.ReferenceIdeal Cert.ReferenceIdeal.Gen
open Idealize.ShloMosaic
open Cert.Math

/-- A small number read off a word as a signed one, clamped below a bound it respects. -/
theorem clamp_word {q N : ℕ} {v : BitVec 32} (hv : v = BitVec.ofNat 32 q) (hq : q ≤ N) (hN : N < 2147483648) :
    min v.toInt.toNat N = q := by
  rw [hv, toInt_ofNat (by omega), Int.toNat_natCast]
  omega

theorem gather_freq {α : Type} (x : S32x321x47.Idx → α) (idx : IVec S32x321x3x1 32) (b : Fin 32) (n : Fin 321) (k : Fin 3)
    (q : Fin 47) (h : idx (ix4 b n k 0) = BitVec.ofNat 32 q.val) :
    Host.gather gather_S32x321x47_S32x321x3x1_S32x321x3_n_2_01_01_2_3_111 x idx (ix3 b n k) = x (ix3 b n q) := by
  unfold Host.gather
  congr 1
  funext a
  refine Fin.ext ?_
  match a with
  | ⟨0, _⟩ => show 0 + b.val + 0 = b.val; omega
  | ⟨1, _⟩ => show 0 + n.val + 0 = n.val; omega
  | ⟨2, _⟩ =>
    show min (idx _).toInt.toNat 46 + 0 + 0 = q.val
    refine (congrArg (· + 0 + 0) (clamp_word (q := q.val) ?_ (by omega) (by omega))).trans (by simp)
    rw [← h]
    congr 1
    funext i
    refine Fin.ext ?_
    match i with
    | ⟨0, _⟩ => rfl
    | ⟨1, _⟩ => rfl
    | ⟨2, _⟩ => rfl
    | ⟨3, _⟩ => rfl

theorem gather_table {α : Type} (x : S47x96.Idx → α) (idx : IVec S32x321x3x1 32) (b : Fin 32) (n : Fin 321) (k : Fin 3) (t : Fin 96)
    (q : Fin 47) (h : idx (ix4 b n k 0) = BitVec.ofNat 32 q.val) :
    Host.gather gather_S47x96_S32x321x3x1_S32x321x3x96_3_0_n_n_0_3_196 x idx (ix4 b n k t) = x (ix2 q t) := by
  unfold Host.gather
  congr 1
  funext a
  refine Fin.ext ?_
  match a with
  | ⟨1, _⟩ => show 0 + 0 + t.val = t.val; omega
  | ⟨0, _⟩ =>
    show min (idx _).toInt.toNat 46 + 0 + 0 = q.val
    refine (congrArg (· + 0 + 0) (clamp_word (q := q.val) ?_ (by omega) (by omega))).trans (by simp)
    rw [← h]
    congr 1
    funext i
    refine Fin.ext ?_
    match i with
    | ⟨0, _⟩ => rfl
    | ⟨1, _⟩ => rfl
    | ⟨2, _⟩ => rfl
    | ⟨3, _⟩ => rfl

theorem gather_word {α : Type} (x : S64.Idx → α) (idx : IVec S64x1 32) (p : Fin 64)
    (q : Fin 64) (h : idx (ix2 p 0) = BitVec.ofNat 32 q.val) :
    Host.gather gather_S64_S64x1_S64_n_0_n_n_0_1_1 x idx (ix1 p) = x (ix1 q) := by
  unfold Host.gather
  congr 1
  funext a
  refine Fin.ext ?_
  match a with
  | ⟨0, _⟩ =>
    show min (idx _).toInt.toNat 63 + 0 + 0 = q.val
    refine (congrArg (· + 0 + 0) (clamp_word (q := q.val) ?_ (by omega) (by omega))).trans (by simp)
    rw [← h]
    congr 1
    funext i
    refine Fin.ext ?_
    match i with
    | ⟨0, _⟩ => rfl
    | ⟨1, _⟩ => rfl

theorem gather_gate {α : Type} (x : S32x4.Idx → α) (idx : IVec S64x2 32) (p : Fin 64) (b : Fin 32) (e : Fin 4)
    (h : idx (ix2 p 0) = BitVec.ofNat 32 b.val) (h' : idx (ix2 p 1) = BitVec.ofNat 32 e.val) :
    Host.gather gather_S32x4_S64x2_S64_n_01_n_n_01_1_11 x idx (ix1 p) = x (ix2 b e) := by
  unfold Host.gather
  congr 1
  funext a
  refine Fin.ext ?_
  match a with
  | ⟨0, _⟩ =>
    show min (idx _).toInt.toNat 31 + 0 + 0 = b.val
    refine (congrArg (· + 0 + 0) (clamp_word (q := b.val) ?_ (by omega) (by omega))).trans (by simp)
    rw [← h]
    congr 1
    funext i
    refine Fin.ext ?_
    match i with
    | ⟨0, _⟩ => rfl
    | ⟨1, _⟩ => rfl
  | ⟨1, _⟩ =>
    show min (idx _).toInt.toNat 3 + 0 + 0 = e.val
    refine (congrArg (· + 0 + 0) (clamp_word (q := e.val) ?_ (by omega) (by omega))).trans (by simp)
    rw [← h']
    congr 1
    funext i
    refine Fin.ext ?_
    match i with
    | ⟨0, _⟩ => rfl
    | ⟨1, _⟩ => rfl

theorem gather_rows {α : Type} (x : S32x96x321x16.Idx → α) (idx : IVec S64x1 32) (p : Fin 64) (t : Fin 96) (n : Fin 321) (d : Fin 16)
    (b : Fin 32) (h : idx (ix2 p 0) = BitVec.ofNat 32 b.val) :
    Host.gather gather_S32x96x321x16_S64x1_S64x96x321x16_123_0_n_n_0_1_19632116 x idx (ix4 p t n d) = x (ix4 b t n d) := by
  unfold Host.gather
  congr 1
  funext a
  refine Fin.ext ?_
  match a with
  | ⟨1, _⟩ => show 0 + 0 + t.val = t.val; omega
  | ⟨2, _⟩ => show 0 + 0 + n.val = n.val; omega
  | ⟨3, _⟩ => show 0 + 0 + d.val = d.val; omega
  | ⟨0, _⟩ =>
    show min (idx _).toInt.toNat 31 + 0 + 0 = b.val
    refine (congrArg (· + 0 + 0) (clamp_word (q := b.val) ?_ (by omega) (by omega))).trans (by simp)
    rw [← h]
    congr 1
    funext i
    refine Fin.ext ?_
    match i with
    | ⟨0, _⟩ => rfl
    | ⟨1, _⟩ => rfl

end Cert.Reference
-- ==== Proof.Reference.Spectrum.lean ====
/- The reference's spectrum: real and imaginary parts, magnitudes. -/
module

public import proofs.«01_k».proof.Proof.Gen.ReferenceIdeal.Run
public import proofs.«01_k».proof.Proof.Math.Sorted
public import proofs.«01_k».proof.Proof.Reference.Gather
public import Idealize.ShloMosaic.Lib.Pointwise
public import Idealize.ShloMosaic.Lib.SortFacts
public import Idealize.ShloMosaic.Lib.Routing.OpsPair

@[expose] public section

noncomputable section

namespace Cert.Reference

open Cert.ReferenceIdeal Cert.ReferenceIdeal.Gen Cert.ReferenceIdeal.Value
open Idealize.ShloMosaic
open Cert.Math Cert.Spec

/-- The arrays the reference starts from, as the real numbers of the specification. -/
structure Given (a : Args) (V : Valuation τ sig (Elt Ideal)) : Prop where
  x : ∀ b t n, V (Proc.devRef .tc main_arg0) (ix4 b t n 0) = (a.X b t n : EReal)
  ws : ∀ n, V (Proc.devRef .tc main_arg2) (ix2 0 n) = (a.ws n : EReal)
  wb : V (Proc.devRef .tc main_arg3) (ix1 0) = (a.wb : EReal)
  wg : ∀ e t, V (Proc.devRef .tc main_arg4) (ix2 e t) = (a.wg e t : EReal)
  gb : ∀ e, V (Proc.devRef .tc main_arg5) (ix1 e) = (a.gb e : EReal)
  m1 : ∀ i j, Ideal.ofBits .f32 (lit0 (S96x96.rowMajor (ix2 i j))) = (a.M i j : EReal)
  co : ∀ t f, Ideal.ofBits .f32 (lit1 (S96x47.rowMajor (ix2 t f))) = (a.C t f : EReal)
  si : ∀ t f, Ideal.ofBits .f32 (lit2 (S96x47.rowMajor (ix2 t f))) = (a.S t f : EReal)
  rc : ∀ f t, Ideal.ofBits .f32 (lit3 (S47x96.rowMajor (ix2 f t))) = (a.RC f t : EReal)
  rs : ∀ f t, Ideal.ofBits .f32 (lit4 (S47x96.rowMajor (ix2 f t))) = (a.RS f t : EReal)

theorem sort2_snd {s : Shape} (d : ℕ) (hd : d < s.rank) {α β : Type} (cmp : α × β → α × β → BitVec 1) (x : s.Idx → α) (y : s.Idx → β)
    (j : s.Idx) : (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

theorem along2 (b : Fin 32) (n : Fin 321) (k q : Fin 47) : Shape.Idx.along (s := S32x321x47) (ix3 b n k) 2 q = ix3 b n q := by
  funext i
  match i with
  | ⟨0, _⟩ => rfl
  | ⟨1, _⟩ => rfl
  | ⟨2, _⟩ => rfl

theorem topK_freq (x : FVec Ideal S32x321x47 .f32) (b : Fin 32) (n : Fin 321) (k : Fin 3) :
    (Host.topK S32x321x3 2 (FloatOps.cmpfTotal (F := Ideal) (φ := .f32) .gt) x sliceFits_S32x321x47_S32x321x3).2 (ix3 b n k)
      = BitVec.ofNat 32 (sortedFrom (fun i j => FloatOps.cmpfTotal (F := Ideal) (φ := .f32) .gt (x (ix3 b n i)) (x (ix3 b n j)) == 1#1) ⟨k.val, by omega⟩).val := by
  have hs : ∀ y : IVec S32x321x47 32, extractStridedSlice S32x321x3 (fun _ => 0) y sliceFits_S32x321x47_S32x321x3 (ix3 b n k) = y (ix3 b n ⟨k.val, by omega⟩) := by
    intro y
    refine congrArg y ?_
    funext i
    match i with
    | ⟨0, _⟩ => exact Fin.ext (Nat.zero_add _)
    | ⟨1, _⟩ => exact Fin.ext (Nat.zero_add _)
    | ⟨2, _⟩ => exact Fin.ext (Nat.zero_add _)
  unfold Host.topK
  dsimp only
  rw [hs, sort2_snd 2 (by decide)]
  dsimp only
  rw [dif_pos (by decide)]
  have e : ∀ q, Shape.Idx.along (s := S32x321x47) (ix3 b n ⟨k.val, by omega⟩) ⟨2, by decide⟩ q = ix3 b n q := along2 b n ⟨k.val, by omega⟩
  refine (congrArg (iotaInDim S32x321x47 32 ⟨2, by decide⟩) (e _)).trans ?_
  exact congrArg (fun R => BitVec.ofNat 32 (sortedFrom R (⟨k.val, by omega⟩ : Fin 47)).val) (funext fun i => funext fun j =>
    congrArg₂ (fun u v => (FloatOps.cmpfTotal (F := Ideal) (φ := .f32) .gt (x u) (x v) == 1#1)) (e i) (e j))

variable {a : Args} {V : Valuation τ sig (Elt Ideal)} (H : Given a V)
include H

theorem v1_at (b : Fin 32) (t : Fin 96) (n : Fin 321) : res_main_v1 V (ix3 b t n) = (a.X b t n : EReal) := by
  rw [← H.x]
  unfold res_main_v1
  pointwise []

theorem v5_at (b : Fin 32) (n : Fin 321) (f : Fin 47) : res_main_v5 V (ix3 b n f) = (re a b n f : EReal) := by
  have h := v1_at H
  unfold res_main_v5 res_main_v4
  generalize res_main_v1 V = x at h ⊢
  pointwise []
  simp only [h, H.co, ← EReal.coe_mul, ← coe_sum]
  rfl

theorem v7_at (b : Fin 32) (n : Fin 321) (f : Fin 47) : res_main_v7 V (ix3 b n f) = ((-im a b n f : ℝ) : EReal) := by
  have h := v1_at H
  unfold res_main_v7 res_main_v4
  generalize res_main_v1 V = x at h ⊢
  pointwise []
  simp only [h, H.si, ← EReal.coe_mul, ← coe_sum, ← EReal.coe_neg]
  rfl

theorem v11_at (b : Fin 32) (n : Fin 321) (f : Fin 47) : res_main_v11 V (ix3 b n f) = (mag a b n f : EReal) := by
  have h := v5_at H b n f
  have h' := v7_at H b n f
  unfold res_main_v11
  generalize res_main_v5 V = x at h ⊢
  generalize res_main_v7 V = y at h' ⊢
  pointwise []
  rw [h, h', ← EReal.coe_mul, ← EReal.coe_mul, ← EReal.coe_add, Ideal.sqrt_coe,
    if_neg (not_lt.2 (add_nonneg (mul_self_nonneg _) (mul_self_nonneg _))), neg_mul_neg]
  rfl

theorem indices_at (b : Fin 32) (n : Fin 321) (k : Fin 3) : res_main_indices V (ix3 b n k) = BitVec.ofNat 32 (freq a b n k).val := by
  have h := fun f => v11_at H b n f
  unfold res_main_indices
  generalize res_main_v11 V = x at h ⊢
  have hk : ∀ R : Fin 47 → Fin 47 → Bool, (∀ i j, R i j = decide ((mag a b n j : EReal) < (mag a b n i : EReal))) →
      sortedFrom R ⟨k.val, by omega⟩ = freq a b n k := by
    intro R hR
    obtain ⟨h0, h1, h2⟩ := sorted_tops (fun f => (mag a b n f : EReal)) R hR (by omega)
    match k with
    | ⟨0, _⟩ => exact h0
    | ⟨1, _⟩ => exact h1
    | ⟨2, _⟩ => exact h2
  rw [topK_freq, hk (fun i j => FloatOps.cmpfTotal (F := Ideal) (φ := .f32) .gt (x (ix3 b n i)) (x (ix3 b n j)) == 1#1) fun i j => by rw [h, h, gt_total]]

theorem v12_at (b : Fin 32) (n : Fin 321) (k : Fin 3) : res_main_v12 V (ix3 b n k) = (re a b n (freq a b n k) : EReal) := by
  rw [← v5_at H]
  have h := indices_at H b n k
  unfold res_main_v12
  refine gather_freq _ _ b n k _ ?_
  generalize res_main_indices V = x at h ⊢
  pointwise []
  rw [Idealize.ShloMosaic.Routing.wrap_of_lt _ _ (by rw [h, BitVec.toNat_ofNat, Nat.mod_eq_of_lt (by omega)]; omega), h]

theorem v13_at (b : Fin 32) (n : Fin 321) (k : Fin 3) : res_main_v13 V (ix3 b n k) = ((-im a b n (freq a b n k) : ℝ) : EReal) := by
  rw [← v7_at H]
  have h := indices_at H b n k
  unfold res_main_v13
  refine gather_freq _ _ b n k _ ?_
  generalize res_main_indices V = x at h ⊢
  pointwise []
  rw [Idealize.ShloMosaic.Routing.wrap_of_lt _ _ (by rw [h, BitVec.toNat_ofNat, Nat.mod_eq_of_lt (by omega)]; omega), h]

theorem v17_at (b : Fin 32) (n : Fin 321) (k : Fin 3) (t : Fin 96) : res_main_v17 V (ix4 b n k t) = (a.RS (freq a b n k) t : EReal) := by
  rw [← H.rs]
  have h := indices_at H b n k
  unfold res_main_v17
  rw [gather_table _ _ b n k t (freq a b n k) (by
    generalize res_main_indices V = x at h ⊢
    pointwise [h])]
  rfl

omit H in
/-- The value the reference divides by: the series' length. -/
theorem length_val : Ideal.ofBits .f32 1119879168#32 = ((96 : ℝ) : EReal) := by
  have h : Ideal.ofBits .f32 1119879168#32 = ((12582912 * (1 / 131072) : ℝ) : EReal) := by
    rw [EReal.coe_mul]
    simp [Ideal.ofBits, Ideal.ieee]
    norm_num
  rw [h]
  norm_num

theorem v15_at (b : Fin 32) (n : Fin 321) (k : Fin 3) (t : Fin 96) : res_main_v15 V (ix4 b n k t) = (a.RC (freq a b n k) t : EReal) := by
  rw [← H.rc]
  have h := indices_at H b n k
  unfold res_main_v15
  rw [gather_table _ _ b n k t (freq a b n k) (by
    generalize res_main_indices V = x at h ⊢
    pointwise [h])]
  rfl

theorem v46_at (b : Fin 32) (e : Fin 4) : res_main_v46 V (ix2 b e) = (logit a b e : EReal) := by
  have h1 := v1_at H
  have h12 := v12_at H
  have h13 := v13_at H
  have h15 := v15_at H
  have h17 := v17_at H
  unfold res_main_v46
  generalize res_main_v1 V = x1 at h1 ⊢
  generalize res_main_v12 V = x12 at h12 ⊢
  generalize res_main_v13 V = x13 at h13 ⊢
  generalize res_main_v15 V = x15 at h15 ⊢
  generalize res_main_v17 V = x17 at h17 ⊢
  pointwise []
  simp only [h1, h12, h13, h15, h17, H.m1, H.ws, H.wb, H.wg, H.gb, length_val, Ideal.div_coe (show (96 : ℝ) ≠ 0 by norm_num),
    ← EReal.coe_mul, ← EReal.coe_sub, ← EReal.coe_add, ← EReal.coe_neg, ← coe_sum]
  refine congrArg (fun z : ℝ => (z : EReal)) ?_
  unfold logit mix season wave
  refine congrArg (fun z : ℝ => z + a.gb e) (Finset.sum_congr rfl fun t _ => ?_)
  refine congrArg (fun z : ℝ => z * a.wg e t) (congrArg (fun z : ℝ => z + a.wb) (Finset.sum_congr rfl fun n _ => congrArg (fun z : ℝ => z * a.ws n) (congrArg₂ (fun y z : ℝ => y + z) ?_ ?_)))
  · exact Finset.sum_congr rfl fun t' _ => mul_comm _ _
  · rw [← Finset.sum_add_distrib, Finset.mul_sum]
    refine Finset.sum_congr rfl fun k _ => ?_
    ring

end Cert.Reference
-- ==== Proof.Reference.Gates.lean ====
/- The reference's gates: the two strongest experts of each batch entry and their weights. -/
module

public import proofs.«01_k».proof.Proof.Reference.Spectrum
public import proofs.«01_k».proof.Proof.Math.Search
public import Idealize.ShloMosaic.Lib.Routing.OpsSet

@[expose] public section

noncomputable section

namespace Cert.Reference

open Cert.ReferenceIdeal Cert.ReferenceIdeal.Gen Cert.ReferenceIdeal.Value
open Idealize.ShloMosaic
open Cert.Math Cert.Spec

/-- The strongest two experts in order. -/
def best (a : Args) (b : Fin 32) : Fin 2 → Fin 4 := ![i1 a b, i2 a b]

theorem sort2_fst {s : Shape} (d : ℕ) (hd : d < s.rank) {α β : Type} (cmp : α × β → α × β → BitVec 1) (x : s.Idx → α) (y : s.Idx → β)
    (j : s.Idx) : (Host.sort2 s d cmp x y).1 j = x (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

theorem along1 (b : Fin 32) (k q : Fin 4) : Shape.Idx.along (s := S32x4) (ix2 b k) 1 q = ix2 b q := by
  funext i
  match i with
  | ⟨0, _⟩ => rfl
  | ⟨1, _⟩ => rfl

/-- Where the sort of one batch entry's logits puts the first two. -/
theorem topK_best (x : FVec Ideal S32x4 .f32) (b : Fin 32) (k : Fin 2) :
    (extractStridedSlice S32x2 ![0, 0] ((Host.topK S32x3 1 (FloatOps.cmpfTotal (F := Ideal) (φ := .f32) .gt) x sliceFits_S32x4_S32x3).1) slices_S32x3_S32x2_0_0) (ix2 b k)
      = x (ix2 b (sortedFrom (fun i j => FloatOps.cmpfTotal (F := Ideal) (φ := .f32) .gt (x (ix2 b i)) (x (ix2 b j)) == 1#1) (⟨k.val, by omega⟩ : Fin 4)))
    ∧ (extractStridedSlice S32x2 ![0, 0] ((Host.topK S32x3 1 (FloatOps.cmpfTotal (F := Ideal) (φ := .f32) .gt) x sliceFits_S32x4_S32x3).2) slices_S32x3_S32x2_0_0) (ix2 b k)
      = BitVec.ofNat 32 (sortedFrom (fun i j => FloatOps.cmpfTotal (F := Ideal) (φ := .f32) .gt (x (ix2 b i)) (x (ix2 b j)) == 1#1) (⟨k.val, by omega⟩ : Fin 4)).val := by
  have hs : ∀ {α : Type} (y : S32x4.Idx → α), extractStridedSlice S32x2 ![0, 0] (extractStridedSlice S32x3 (fun _ => 0) y sliceFits_S32x4_S32x3) slices_S32x3_S32x2_0_0 (ix2 b k) = y (ix2 b ⟨k.val, by omega⟩) := by
    intro α y
    refine congrArg y ?_
    funext i
    match i with
    | ⟨0, _⟩ => exact Fin.ext (by show 0 + (0 + b.val) = b.val; omega)
    | ⟨1, _⟩ => exact Fin.ext (by show 0 + (0 + k.val) = k.val; omega)
  have e : ∀ q, Shape.Idx.along (s := S32x4) (ix2 b ⟨k.val, by omega⟩) ⟨1, by decide⟩ q = ix2 b q := along1 b ⟨k.val, by omega⟩
  unfold Host.topK
  dsimp only
  rw [hs, hs, sort2_fst 1 (by decide), sort2_snd 1 (by decide)]
  dsimp only
  rw [dif_pos (by decide)]
  constructor
  · refine (congrArg x (e _)).trans ?_
    exact congrArg (fun R => x (ix2 b (sortedFrom R (⟨k.val, by omega⟩ : Fin 4)))) (funext fun i => funext fun j =>
      congrArg₂ (fun u v => (FloatOps.cmpfTotal (F := Ideal) (φ := .f32) .gt (x u) (x v) == 1#1)) (e i) (e j))
  · refine (congrArg (iotaInDim S32x4 32 ⟨1, by decide⟩) (e _)).trans ?_
    exact congrArg (fun R => BitVec.ofNat 32 (sortedFrom R (⟨k.val, by omega⟩ : Fin 4)).val) (funext fun i => funext fun j =>
      congrArg₂ (fun u v => (FloatOps.cmpfTotal (F := Ideal) (φ := .f32) .gt (x u) (x v) == 1#1)) (e i) (e j))

variable {a : Args} {V : Valuation τ sig (Elt Ideal)} (H : Given a V)
include H

theorem best_at (b : Fin 32) (k : Fin 2) :
    sortedFrom (fun i j => FloatOps.cmpfTotal (F := Ideal) (φ := .f32) .gt (res_main_v46 V (ix2 b i)) (res_main_v46 V (ix2 b j)) == 1#1) (⟨k.val, by omega⟩ : Fin 4)
      = best a b k := by
  obtain ⟨h0, h1, -⟩ := sorted_tops (fun e => (logit a b e : EReal))
    (fun i j => FloatOps.cmpfTotal (F := Ideal) (φ := .f32) .gt (res_main_v46 V (ix2 b i)) (res_main_v46 V (ix2 b j)) == 1#1)
    (fun i j => by rw [v46_at H, v46_at H, gt_total]) (by omega)
  match k with
  | ⟨0, _⟩ => exact h0
  | ⟨1, _⟩ => exact h1

theorem v47_at (b : Fin 32) (k : Fin 2) : res_main_v47 V (ix2 b k) = (logit a b (best a b k) : EReal) := by
  unfold res_main_v47
  refine (topK_best (res_main_v46 V) b k).1.trans ?_
  rw [best_at H, v46_at H]

theorem v48_at (b : Fin 32) (k : Fin 2) : res_main_v48 V (ix2 b k) = BitVec.ofNat 32 (best a b k).val := by
  unfold res_main_v48
  refine (topK_best (res_main_v46 V) b k).2.trans ?_
  rw [best_at H]

theorem v55_at (b : Fin 32) (k : Fin 2) : res_main_v55 V (ix2 b k) = ((if k = 0 then 1 else ratio a b : ℝ) : EReal) := by
  have h := v47_at H b
  unfold res_main_v55
  generalize res_main_v47 V = x at h ⊢
  pointwise []
  have hm : max (Ideal.ofBits .f32 4286578688#32)
      (Finset.fold max (Ideal.ofBits .f32 4286578688#32) x (Finset.univ.filter fun i => reducesTo_S32x2_S32_d1.drop i = ix1 b)) = (logit a b (i1 a b) : EReal) := by
    rw [Cert.Search.negInf, max_eq_right bot_le]
    refine le_antisymm ((Finset.fold_max_le _).2 ⟨bot_le, fun i hi => ?_⟩) ((Finset.le_fold_max _).2 (Or.inr ⟨ix2 b 0, ?_, ?_⟩))
    · have hb : i = ix2 b (i 1) := by
        funext q
        match q with
        | ⟨0, _⟩ => exact congrFun (Finset.mem_filter.1 hi).2 0
        | ⟨1, _⟩ => rfl
      refine le_trans (le_of_eq ((congrArg x hb).trans (h (i 1)))) ?_
      exact (top1_isTop fun e => (logit a b e : EReal)).le (Finset.notMem_empty _)
    · refine Finset.mem_filter.2 ⟨Finset.mem_univ _, ?_⟩
      funext q
      match q with
      | ⟨0, _⟩ => rfl
    · rw [h]
      exact le_rfl
  rw [hm, h, ← EReal.coe_sub, Ideal.exp_coe]
  match k with
  | ⟨0, _⟩ =>
    show ((Real.exp (logit a b (i1 a b) - logit a b (i1 a b)) : ℝ) : EReal) = ((1 : ℝ) : EReal)
    rw [sub_self, Real.exp_zero]
  | ⟨1, _⟩ => rfl

theorem weight_at (b : Fin 32) (k : Fin 2) : (Host.divf (res_main_v55 V) (broadcastInDim S32x2 ![0, 1] bcast_S32x1_S32x2_0_1 (broadcastInDim S32x1 ![0] bcast_S32_S32x1_0 (Host.reduceAdd (res_main_v55 V) (constant S_ .f32 0x00000000#32) reducesTo_S32x2_S32_d1 h_S_)))) (ix2 b k)
   = (gate a b (best a b k) : EReal) := by
  have h := v55_at H b
  generalize res_main_v55 V = x at h ⊢
  pointwise []
  have hr := ratio_pos a b
  have hs : (∑ y, (x (ix2 b y) : EReal) : EReal) = ((1 + ratio a b : ℝ) : EReal) := by
    rw [Fin.sum_univ_two, h, h, if_pos rfl, if_neg (by decide), EReal.coe_add]
  rw [hs, h, Ideal.div_coe (ne_of_gt (add_pos one_pos hr)), ← EReal.coe_mul]
  match k with
  | ⟨0, _⟩ =>
    show (((1 : ℝ) * (1 / (1 + ratio a b)) : ℝ) : EReal) = (gate a b (i1 a b) : EReal)
    rw [gate_i1, one_mul]; rfl
  | ⟨1, _⟩ =>
    show ((ratio a b * (1 / (1 + ratio a b)) : ℝ) : EReal) = (gate a b (i2 a b) : EReal)
    rw [gate_i2, mul_one_div]; rfl

theorem v67_at (b : Fin 32) (e : Fin 4) : res_main_v67 V (ix2 b e) = (gate a b e : EReal) := by
  have hw := weight_at H
  have hv := v48_at H
  unfold res_main_v67
  generalize hu : Host.divf (res_main_v55 V) _ = u
  rw [hu] at hw
  have hi : ∀ (b' : Fin 32) (k : Fin 2), scatter_S32x4_S32x2x2_S32x2_n_01_01_2.resultIdx? (ix2 b' k) (concatenate S32x2x2 2 [⟨S32x2x1, (broadcastInDim S32x2x1 ![0, 1] bcast_S32x2_S32x2x1_0_1 (broadcastInDim S32x2 ![0, 1] bcast_S32x1_S32x2_0_1 (broadcastInDim S32x1 ![0] bcast_S32_S32x1_0 (iotaInDim S32 32 0))))⟩, ⟨S32x2x1, (broadcastInDim S32x2x1 ![0, 1] bcast_S32x2_S32x2x1_0_1 (res_main_v48 V))⟩] concatenates_S32x2x1_S32x2x1_S32x2x2_d2) = some (ix2 b e)
      ↔ b' = b ∧ best a b' k = e := by
    intro b' k
    refine (Idealize.ShloMosaic.Routing.scatter_lands2 scatter_S32x4_S32x2x2_S32x2_n_01_01_2 rfl rfl rfl _ b' k b e).trans ?_
    generalize res_main_v48 V = y at hv ⊢
    pointwise []
    rw [hv, toInt_ofNat (by omega), toInt_ofNat (by omega)]
    simp only [Nat.cast_inj, Fin.val_inj]
  generalize concatenate S32x2x2 2 _ _ = idx at hi ⊢
  by_cases h : ∃ k, best a b k = e
  · obtain ⟨k, hk⟩ := h
    refine Idealize.ShloMosaic.Routing.scatter_set_hit _ _ _ _ _ _ ?_ (ix2 b k) ((hi b k).2 ⟨rfl, hk⟩)
    intro j hj
    obtain ⟨b', k', rfl⟩ : ∃ (b' : Fin 32) (k' : Fin 2), j = ix2 b' k' := ⟨j 0, j 1, by
      funext q
      match q with
      | ⟨0, _⟩ => rfl
      | ⟨1, _⟩ => rfl⟩
    obtain ⟨rfl, rfl⟩ := (hi b' k').1 hj
    exact hw b' k'
  · rw [Idealize.ShloMosaic.Routing.scatter_set_miss]
    · have h0 : gate a b e = 0 := by
        unfold gate
        rw [if_neg fun h1 => h ⟨0, h1.symm⟩, if_neg fun h1 => h ⟨1, h1.symm⟩, add_zero]
      rw [h0]
      pointwise []
      exact EReal.coe_zero.symm
    · intro j hj
      obtain ⟨b', k', rfl⟩ : ∃ (b' : Fin 32) (k' : Fin 2), j = ix2 b' k' := ⟨j 0, j 1, by
        funext q
        match q with
        | ⟨0, _⟩ => rfl
        | ⟨1, _⟩ => rfl⟩
      obtain ⟨rfl, h'⟩ := (hi b' k').1 hj
      exact h ⟨k', h'⟩

end Cert.Reference
-- ==== Proof.Reference.Loss.lean ====
/- The reference's balance loss. -/
module

public import proofs.«01_k».proof.Proof.Reference.Gates

@[expose] public section

noncomputable section

namespace Cert.Reference

open Cert.ReferenceIdeal Cert.ReferenceIdeal.Gen Cert.ReferenceIdeal.Value
open Idealize.ShloMosaic
open Cert.Math Cert.Spec

theorem four_val : Ideal.ofBits .f32 1082130432#32 = ((4 : ℝ) : EReal) := by
  have h : Ideal.ofBits .f32 1082130432#32 = ((8388608 * (1 / 2097152) : ℝ) : EReal) := by
    rw [EReal.coe_mul]
    simp [Ideal.ofBits, Ideal.ieee]
    norm_num
  rw [h]
  norm_num

theorem three_val : Ideal.ofBits .f32 0x40400000#32 = ((3 : ℝ) : EReal) := by
  have h : Ideal.ofBits .f32 0x40400000#32 = ((12582912 * (1 / 4194304) : ℝ) : EReal) := by
    rw [EReal.coe_mul]
    simp [Ideal.ofBits, Ideal.ieee]
    norm_num
  rw [h]
  norm_num

theorem three : Ideal.ofBits .f32 1082130432#32 - FloatOps.sitofp (F := Ideal) FTy.f32 1#32 = Ideal.ofBits .f32 0x40400000#32 := by
  have h1 : FloatOps.sitofp (F := Ideal) FTy.f32 1#32 = ((1 : ℝ) : EReal) := by
    show (((1#32 : BitVec 32).toInt : ℝ) : EReal) = _
    norm_num
  rw [h1, four_val, three_val, ← EReal.coe_sub]
  norm_num

/-- A gate is open exactly at the two experts chosen. -/
theorem open_at (a : Args) (b : Fin 32) (e : Fin 4) :
    FloatOps.uitofp (F := Ideal) FTy.f32 (BitVec.ofBool (decide ((0 : EReal) < (gate a b e : EReal)))) = (hit a b e : EReal) := by
  have h1 := g1_pos a b
  have h2 := g2_pos a b
  have ho : FloatOps.uitofp (F := Ideal) FTy.f32 (BitVec.ofBool true) = ((1 : ℝ) : EReal) := by
    show (((1#1 : BitVec 1).toNat : ℝ) : EReal) = _
    norm_num
  have hz : FloatOps.uitofp (F := Ideal) FTy.f32 (BitVec.ofBool false) = ((0 : ℝ) : EReal) := by
    show (((0#1 : BitVec 1).toNat : ℝ) : EReal) = _
    norm_num
  have hne := i2_ne a b
  by_cases e1 : e = i1 a b
  · rw [show gate a b e = g1 a b by rw [e1, gate_i1], decide_eq_true (EReal.coe_pos.2 h1), ho]
    unfold hit
    rw [if_pos e1, if_neg fun h => hne (h.symm.trans e1), add_zero]
  · by_cases e2 : e = i2 a b
    · rw [show gate a b e = g2 a b by rw [e2, gate_i2], decide_eq_true (EReal.coe_pos.2 h2), ho]
      unfold hit
      rw [if_neg e1, if_pos e2, zero_add]
    · rw [show gate a b e = 0 by unfold gate; rw [if_neg e1, if_neg e2, add_zero], EReal.coe_zero, decide_eq_false (lt_irrefl _), hz]
      unfold hit
      rw [if_neg e1, if_neg e2, add_zero]

variable {a : Args} {V : Valuation τ sig (Elt Ideal)} (H : Given a V)
include H

theorem v72_at (e : Fin 4) : res_main_v72 V (ix1 e) = ∑ b, (gate a b e : EReal) := by
  have h := fun b => v67_at H b e
  unfold res_main_v72
  generalize res_main_v67 V = x at h ⊢
  pointwise []
  simp only [h]

theorem v71_at (e : Fin 4) : res_main_v71 V (ix1 e) = ∑ b, (hit a b e : EReal) := by
  have h := fun b => v67_at H b e
  unfold res_main_v71
  generalize res_main_v67 V = x at h ⊢
  pointwise []
  simp only [h, open_at]

omit H in
theorem cv_at (x : FVec Ideal S4 .f32) (v : Fin 4 → EReal) (h : ∀ e, x (ix1 e) = v e) (i : S_.Idx) :
    Host.divf (select (cmpf .ogt (subf (constant (F := Ideal) S_ .f32 0x40800000#32) (sitofp .f32 (constantI S_ 32 1#32))) (constant S_ .f32 0x00000000#32))
       (Host.divf (Host.reduceAdd (mulf (subf x (broadcastInDim S4 ![0] bcast_S1_S4_0 (Host.divf (broadcastInDim S1 ![] bcast_S_S1 (Host.reduceAdd x (constant S_ .f32 0x00000000#32) reducesTo_S4_S_d0 h_S_)) (broadcastInDim S1 ![] bcast_S_S1 (constant S_ .f32 0x40800000#32)))))
         (subf x (broadcastInDim S4 ![0] bcast_S1_S4_0 (Host.divf (broadcastInDim S1 ![] bcast_S_S1 (Host.reduceAdd x (constant S_ .f32 0x00000000#32) reducesTo_S4_S_d0 h_S_)) (broadcastInDim S1 ![] bcast_S_S1 (constant S_ .f32 0x40800000#32))))))
          (constant S_ .f32 0x00000000#32) reducesTo_S4_S_d0 h_S_)
          (subf (constant (F := Ideal) S_ .f32 0x40800000#32) (sitofp .f32 (constantI S_ 32 1#32)))) (constant S_ .f32 0x7FC00000#32))
       (addf (mulf (Host.divf (Host.reduceAdd x (constant S_ .f32 0x00000000#32) reducesTo_S4_S_d0 h_S_) (constant S_ .f32 0x40800000#32))
          (Host.divf (Host.reduceAdd x (constant S_ .f32 0x00000000#32) reducesTo_S4_S_d0 h_S_) (constant S_ .f32 0x40800000#32))) (constant S_ .f32 0x2EDBE6FF#32)) i
      = cv v := by
  pointwise []
  rw [three, if_pos (by rw [three_val]; exact EReal.coe_pos.2 (by norm_num))]
  simp only [h]
  rfl

/-- The reference's second result. -/
theorem v86_at (i : S_.Idx) :
    mulf (addf (Host.divf (select (cmpf .ogt (res_main_call2_v8 V) (constant S_ .f32 0x00000000#32)) (Host.divf (Host.reduceAdd (mulf (res_main_call2_v5 V) (res_main_call2_v5 V)) (constant S_ .f32 0x00000000#32) reducesTo_S4_S_d0 h_S_) (res_main_call2_v8 V)) (id (constant S_ .f32 0x7FC00000#32))) (addf (mulf (res_main_v75 V) (res_main_v75 V)) (constant S_ .f32 0x2EDBE6FF#32)))
      (Host.divf (select (cmpf .ogt (res_main_call3_v8 V) (constant S_ .f32 0x00000000#32)) (Host.divf (Host.reduceAdd (mulf (res_main_call3_v5 V) (res_main_call3_v5 V)) (constant S_ .f32 0x00000000#32) reducesTo_S4_S_d0 h_S_) (res_main_call3_v8 V)) (id (constant S_ .f32 0x7FC00000#32))) (addf (mulf (res_main_v81 V) (res_main_v81 V)) (constant S_ .f32 0x2EDBE6FF#32)))) (constant S_ .f32 0x3C23D70A#32) i
      = loss a := by
  have h2 := cv_at (res_main_v72 V) _ (v72_at H) i
  have h3 := cv_at (res_main_v71 V) _ (v71_at H) i
  unfold loss
  rw [← h2, ← h3, mul_comm]
  rfl

end Cert.Reference
-- ==== Proof.Reference.Combined.lean ====
/- The reference's first result: every batch entry is sent to its two experts and comes back whole. -/
module

public import proofs.«01_k».proof.Proof.Reference.Gates

@[expose] public section

noncomputable section

namespace Cert.Reference

open Cert.ReferenceIdeal Cert.ReferenceIdeal.Gen Cert.ReferenceIdeal.Value
open Idealize.ShloMosaic
open Cert.Math Cert.Spec

/-- The slot of a batch entry's expert. -/
def slot (b : Fin 32) (k : Fin 2) : Fin 64 := ⟨2 * b.val + k.val, by omega⟩

theorem slot_cover (p : Fin 64) : p = slot ⟨p.val / 2, by omega⟩ ⟨p.val % 2, by omega⟩ :=
  Fin.ext (by show p.val = 2 * (p.val / 2) + p.val % 2; omega)

theorem sort_pair (y : IVec S32x2 32) (b : Fin 32) :
    ∃ σ : Equiv.Perm (Fin 2), ∀ k, Host.sort S32x2 1 comparator_i32_d1 y (ix2 b k) = y (ix2 b (σ k)) := by
  refine ⟨Equiv.ofBijective _ ⟨sortedFrom_injective (fun i j : Fin 2 => comparator_i32_d1 (y (ix2 b i)) (y (ix2 b j)) == 1#1), sortedFrom_surjective _⟩, fun k => ?_⟩
  have e : ∀ q, Shape.Idx.along (s := S32x2) (ix2 b k) ⟨1, by decide⟩ q = ix2 b q := fun q => by
    funext i
    match i with
    | ⟨0, _⟩ => rfl
    | ⟨1, _⟩ => rfl
  unfold Host.sort
  rw [dif_pos (by decide)]
  refine (congrArg y (e _)).trans ?_
  exact congrArg (fun R => y (ix2 b (sortedFrom R (k : Fin 2)))) (funext fun i => funext fun j =>
    congrArg₂ (fun u v => (comparator_i32_d1 (y u) (y v) == 1#1)) (e i) (e j))

/-- A sort of words along with their positions leaves a rearrangement of the positions. -/
theorem sort_positions {N : ℕ} (cmp : BitVec 32 × BitVec 32 → BitVec 32 × BitVec 32 → BitVec 1) (x : IVec ⟨1, ![N]⟩ 32) :
    ∃ τ : Equiv.Perm (Fin N), ∀ p, (Host.sort2 ⟨1, ![N]⟩ 0 cmp x (iotaInDim ⟨1, ![N]⟩ 32 0)).2 (ix1 p) = BitVec.ofNat 32 (τ p).val := by
  have key : ∀ p : Fin N, (Host.sort2 ⟨1, ![N]⟩ 0 cmp x (iotaInDim ⟨1, ![N]⟩ 32 0)).2 (ix1 p)
      = BitVec.ofNat 32 (sortedFrom (fun i j => cmp (x (ix1 i), iotaInDim ⟨1, ![N]⟩ 32 0 (ix1 i)) (x (ix1 j), iotaInDim ⟨1, ![N]⟩ 32 0 (ix1 j)) == 1#1) p).val := by
    intro p
    have e : ∀ q, Shape.Idx.along (s := ⟨1, ![N]⟩) (ix1 p) ⟨0, Nat.one_pos⟩ q = ix1 q := fun q => by
      funext i
      match i with
      | ⟨0, _⟩ => rfl
    rw [sort2_snd 0 Nat.one_pos]
    refine (congrArg (iotaInDim ⟨1, ![N]⟩ 32 ⟨0, Nat.one_pos⟩) (e _)).trans ?_
    exact congrArg (fun R => BitVec.ofNat 32 (sortedFrom R (p : Fin N)).val) (funext fun i => funext fun j =>
      congrArg₂ (fun u v => (cmp (x u, iotaInDim ⟨1, ![N]⟩ 32 0 u) (x v, iotaInDim ⟨1, ![N]⟩ 32 0 v) == 1#1)) (e i) (e j))
  exact ⟨Equiv.ofBijective _ ⟨sortedFrom_injective _, sortedFrom_surjective _⟩, key⟩

theorem lands_rows (idx : IVec S64x1 32) (p : Fin 64) (t : Fin 96) (n : Fin 321) (d : Fin 16) (b : Fin 32) (t' : Fin 96) (n' : Fin 321) (d' : Fin 16) :
    scatter_S32x96x321x16_S64x1_S64x96x321x16_123_0_0_1.resultIdx? (ix4 p t n d) idx = some (ix4 b t' n' d')
      ↔ (idx (ix2 p 0)).toInt = b.val ∧ t = t' ∧ n = n' ∧ d = d' := by
  rw [Idealize.ShloMosaic.Routing.resultIdx?_eq_some]
  have h0 : scatter_S32x96x321x16_S64x1_S64x96x321x16_123_0_0_1.start (ix4 p t n d) idx 0 = (idx (ix2 p 0)).toInt := by
    show (idx _).toInt = _
    congr 2
    funext i
    refine Fin.ext ?_
    match i with
    | ⟨0, _⟩ => rfl
    | ⟨1, _⟩ => rfl
  constructor
  · intro h
    have a0 := h 0
    rw [h0] at a0
    have a1 : (0 : Int) + (t.val : Int) = (t'.val : Int) := h 1
    have a2 : (0 : Int) + (n.val : Int) = (n'.val : Int) := h 2
    have a3 : (0 : Int) + (d.val : Int) = (d'.val : Int) := h 3
    refine ⟨(add_zero _).symm.trans (a0 : (idx (ix2 p 0)).toInt + ((0 : ℕ) : Int) = (b.val : Int)), Fin.ext (by omega), Fin.ext (by omega), Fin.ext (by omega)⟩
  · rintro ⟨hb, rfl, rfl, rfl⟩ q
    match q with
    | ⟨0, _⟩ =>
      show scatter_S32x96x321x16_S64x1_S64x96x321x16_123_0_0_1.start (ix4 p t n d) idx 0 + ((0 : ℕ) : Int) = (b.val : Int)
      rw [h0, hb]; simp
    | ⟨1, _⟩ => show (0 : Int) + (t.val : Int) = (t.val : Int); omega
    | ⟨2, _⟩ => show (0 : Int) + (n.val : Int) = (n.val : Int); omega
    | ⟨3, _⟩ => show (0 : Int) + (d.val : Int) = (d.val : Int); omega

variable {a : Args} {V : Valuation τ sig (Elt Ideal)} (H : Given a V)

theorem v94_at (τp : Fin 64 → Fin 64) (hτ : ∀ p, res_main_v92 V (ix1 p) = BitVec.ofNat 32 (τp p).val) (p : Fin 64) :
    res_main_v94 V (ix1 p) = BitVec.ofNat 32 ((τp p).val / 2) := by
  unfold res_main_v94
  generalize res_main_v92 V = y at hτ ⊢
  rw [gather_word _ _ p (τp p) (by pointwise [hτ])]
  pointwise []

include H

theorem v88_at (b : Fin 32) : ∃ σ : Equiv.Perm (Fin 2), ∀ k, res_main_v88 V (ix1 (slot b k)) = BitVec.ofNat 32 (best a b (σ k)).val := by
  obtain ⟨σ, hσ⟩ := sort_pair (res_main_v48 V) b
  refine ⟨σ, fun k => ?_⟩
  rw [← v48_at H, ← hσ]
  unfold res_main_v88
  generalize Host.sort S32x2 1 comparator_i32_d1 (res_main_v48 V) = y
  pointwise []
  refine congrArg y (congrArg₂ ix2 (Fin.ext ?_) (Fin.ext ?_))
  · show (2 * b.val + k.val) / 2 = b.val; omega
  · show (2 * b.val + k.val) % 2 = k.val; omega

/-- The reference's first result: what comes back is what was sent. -/
theorem v108_at (b : Fin 32) (t : Fin 96) (n : Fin 321) (d : Fin 16) :
    Host.scatterAdd scatter_S32x96x321x16_S64x1_S64x96x321x16_123_0_0_1 (broadcastInDim S32x96x321x16 ![] bcast_S_S32x96x321x16 (constant S_ .f32 0x00000000#32)) (broadcastInDim S64x1 ![0] bcast_S64_S64x1_0 (res_main_v94 V)) (mulf (Host.gather gather_S32x96x321x16_S64x1_S64x96x321x16_123_0_n_n_0_1_19632116 (V (Proc.devRef .tc main_arg0)) (broadcastInDim S64x1 ![0] bcast_S64_S64x1_0 (res_main_v94 V))) (broadcastInDim S64x96x321x16 ![0, 1, 2, 3] bcast_S64x1x1x1_S64x96x321x16_0_1_2_3 (broadcastInDim S64x1x1x1 ![0] bcast_S64_S64x1x1x1_0 (Host.gather gather_S32x4_S64x2_S64_n_01_n_n_01_1_11 (res_main_v67 V) (concatenate S64x2 1 [⟨S64x1, (broadcastInDim S64x1 ![0] bcast_S64_S64x1_0 (res_main_v94 V))⟩, ⟨S64x1, (broadcastInDim S64x1 ![0] bcast_S64_S64x1_0 (Host.gather gather_S64_S64x1_S64_n_0_n_n_0_1_1 (res_main_v88 V) (broadcastInDim S64x1 ![0] bcast_S64_S64x1_0 (res_main_v92 V))))⟩] concatenates_S64x1_S64x1_S64x2_d1))))) (ix4 b t n d)
      = V (Proc.devRef .tc main_arg0) (ix4 b t n d) := by
  obtain ⟨τ, hτ⟩ := sort_positions comparator_i32_i32_d0 (res_main_v88 V)
  replace hτ : ∀ p, res_main_v92 V (ix1 p) = BitVec.ofNat 32 (τ p).val := hτ
  have h94 := v94_at (fun p => τ p) hτ
  obtain ⟨σ, hσ⟩ := v88_at H b
  have h67 := v67_at H b
  obtain ⟨r, hr⟩ : ∃ r : EReal, V (Proc.devRef .tc main_arg0) (ix4 b t n d) = r := ⟨_, rfl⟩
  generalize V (Proc.devRef .tc main_arg0) = x at hr ⊢
  generalize res_main_v92 V = y92 at hτ ⊢
  generalize res_main_v94 V = y94 at h94 ⊢
  generalize res_main_v88 V = y88 at hσ ⊢
  generalize res_main_v67 V = y67 at h67 ⊢
  have hidx : ∀ p, (broadcastInDim S64x1 ![0] bcast_S64_S64x1_0 y94) (ix2 p 0) = BitVec.ofNat 32 ((τ p).val / 2) := fun p => by
    pointwise [h94]
  -- the two slots of the batch entry, and what is written from each
  have hupd : ∀ k : Fin 2, (mulf (F := Ideal) (φ := .f32) (Host.gather gather_S32x96x321x16_S64x1_S64x96x321x16_123_0_n_n_0_1_19632116 x (broadcastInDim S64x1 ![0] bcast_S64_S64x1_0 y94)) (broadcastInDim S64x96x321x16 ![0, 1, 2, 3] bcast_S64x1x1x1_S64x96x321x16_0_1_2_3 (broadcastInDim S64x1x1x1 ![0] bcast_S64_S64x1x1x1_0 (Host.gather gather_S32x4_S64x2_S64_n_01_n_n_01_1_11 y67 (concatenate S64x2 1 [⟨S64x1, (broadcastInDim S64x1 ![0] bcast_S64_S64x1_0 y94)⟩, ⟨S64x1, (broadcastInDim S64x1 ![0] bcast_S64_S64x1_0 (Host.gather gather_S64_S64x1_S64_n_0_n_n_0_1_1 y88 (broadcastInDim S64x1 ![0] bcast_S64_S64x1_0 y92)))⟩] concatenates_S64x1_S64x1_S64x2_d1))))) (ix4 (τ.symm (slot b k)) t n d)
      = r * ((gate a b (best a b (σ k)) : ℝ) : EReal) := by
    intro k
    have hb : (τ (τ.symm (slot b k))).val / 2 = b.val := by
      rw [Equiv.apply_symm_apply]; show (2 * b.val + k.val) / 2 = b.val; omega
    have hrow := gather_rows x (broadcastInDim S64x1 ![0] bcast_S64_S64x1_0 y94) (τ.symm (slot b k)) t n d b (by rw [hidx, hb])
    have hword := gather_word y88 (broadcastInDim S64x1 ![0] bcast_S64_S64x1_0 y92) (τ.symm (slot b k)) (slot b k)
      (by rw [← Equiv.apply_symm_apply τ (slot b k), ← hτ, Equiv.apply_symm_apply]; pointwise [])
    rw [hσ] at hword
    generalize Host.gather gather_S64_S64x1_S64_n_0_n_n_0_1_1 y88 _ = z at hword ⊢
    have hgate := gather_gate y67 (concatenate S64x2 1 [⟨S64x1, (broadcastInDim S64x1 ![0] bcast_S64_S64x1_0 y94)⟩, ⟨S64x1, (broadcastInDim S64x1 ![0] bcast_S64_S64x1_0 z)⟩] concatenates_S64x1_S64x1_S64x2_d1)
      (τ.symm (slot b k)) b (best a b (σ k)) (by pointwise [h94, hb]) (by pointwise [hword])
    rw [h67] at hgate
    rw [hr] at hrow
    generalize Host.gather gather_S32x4_S64x2_S64_n_01_n_n_01_1_11 y67 _ = w at hgate ⊢
    generalize Host.gather gather_S32x96x321x16_S64x1_S64x96x321x16_123_0_n_n_0_1_19632116 x _ = z' at hrow ⊢
    pointwise []
    rw [hrow, hgate]
  generalize mulf (F := Ideal) _ _ = upd at hupd ⊢
  generalize broadcastInDim S64x1 ![0] bcast_S64_S64x1_0 y94 = idx at hidx ⊢
  show (broadcastInDim S32x96x321x16 ![] bcast_S_S32x96x321x16 (constant (F := Ideal) S_ .f32 0x00000000#32)) (ix4 b t n d)
    + ∑ j ∈ Finset.univ.filter (fun j => scatter_S32x96x321x16_S64x1_S64x96x321x16_123_0_0_1.resultIdx? j idx = some (ix4 b t n d)), upd j = _
  have hz : (broadcastInDim S32x96x321x16 ![] bcast_S_S32x96x321x16 (constant (F := Ideal) S_ .f32 0x00000000#32)) (ix4 b t n d) = (0 : EReal) := by
    pointwise []
  have hsum : ∑ j ∈ Finset.univ.filter (fun j => scatter_S32x96x321x16_S64x1_S64x96x321x16_123_0_0_1.resultIdx? j idx = some (ix4 b t n d)), (upd j : EReal)
      = ∑ k : Fin 2, r * ((gate a b (best a b (σ k)) : ℝ) : EReal) := by
    symm
    refine Finset.sum_bij (fun k _ => ix4 (τ.symm (slot b k)) t n d) ?_ ?_ ?_ ?_
    · intro k _
      refine Finset.mem_filter.2 ⟨Finset.mem_univ _, (lands_rows idx _ t n d b t n d).2 ⟨?_, rfl, rfl, rfl⟩⟩
      rw [hidx, Equiv.apply_symm_apply, toInt_ofNat (by omega)]
      show (((2 * b.val + k.val) / 2 : ℕ) : Int) = b.val
      congr 1; omega
    · intro k _ k' _ h
      have h0 : τ.symm (slot b k) = τ.symm (slot b k') := congrFun h 0
      have h1 : 2 * b.val + k.val = 2 * b.val + k'.val := congrArg Fin.val (τ.symm.injective h0)
      exact Fin.ext (by omega)
    · intro j hj
      obtain ⟨p, t', n', d', rfl⟩ : ∃ (p : Fin 64) (t' : Fin 96) (n' : Fin 321) (d' : Fin 16), j = ix4 p t' n' d' := ⟨j 0, j 1, j 2, j 3, by
        funext q
        match q with
        | ⟨0, _⟩ => rfl
        | ⟨1, _⟩ => rfl
        | ⟨2, _⟩ => rfl
        | ⟨3, _⟩ => rfl⟩
      obtain ⟨hb, rfl, rfl, rfl⟩ := (lands_rows idx p t' n' d' b t n d).1 (Finset.mem_filter.1 hj).2
      rw [hidx, toInt_ofNat (by omega)] at hb
      refine ⟨⟨(τ p).val % 2, by omega⟩, Finset.mem_univ _, ?_⟩
      have : slot b ⟨(τ p).val % 2, by omega⟩ = τ p := Fin.ext (by show 2 * b.val + (τ p).val % 2 = (τ p).val; omega)
      rw [this, Equiv.symm_apply_apply]
    · intro k _
      exact (hupd k).symm
  rw [hz, zero_add]
  refine hsum.trans ?_
  rw [Equiv.sum_comp σ (fun k => r * ((gate a b (best a b k) : ℝ) : EReal)), Fin.sum_univ_two, hr]
  show r * ((gate a b (i1 a b) : ℝ) : EReal) + r * ((gate a b (i2 a b) : ℝ) : EReal) = r
  rw [gate_i1, gate_i2, ← EReal.left_distrib_of_nonneg (EReal.coe_nonneg.2 (g1_pos a b).le) (EReal.coe_nonneg.2 (g2_pos a b).le),
    ← EReal.coe_add, g_add, EReal.coe_one, mul_one]

end Cert.Reference
-- ==== Proof.Algebra.lean ====
/- The two programs end with equal results. -/
module

public import proofs.«01_k».proof.Defs
public import proofs.«01_k».proof.Proof.KernelIdeal.Host
public import proofs.«01_k».proof.Proof.Reference.Loss
public import proofs.«01_k».proof.Proof.Reference.Combined

@[expose] public section

noncomputable section

namespace Cert.Algebra

open Idealize.ShloMosaic
open Cert.Spec

section Precondition

variable {m : (ℓ : Loc Cert.KernelIdeal.nD Cert.KernelIdeal.τ Cert.KernelIdeal.sig) → Buf (Elt Ideal) ℓ}

/-- The precondition says that what reaches the gate is real numbers. -/
theorem reals_of_pre (h : Cert.Pre_KernelIdeal_finite m) (c : Dev Cert.KernelIdeal.nD) : Cert.KernelIdeal.Host.Reals m c := by
  obtain ⟨h0, h2, h3, h4, h5⟩ := h c
  have hx := Cert.Finite.real_of_pre _ _ h0
  exact ⟨fun b t n => by have e := hx (ix3 b t n); rwa [Cert.Finite.channel_at] at e, Cert.Finite.real_of_pre _ _ h2, Cert.Finite.real_of_pre _ _ h3, Cert.Finite.real_of_pre _ _ h4,
    Cert.Finite.real_of_pre _ _ h5⟩

end Precondition

section Reference

open Cert.ReferenceIdeal

variable {V : Valuation τ sig (Elt Ideal)} {x : FVec Ideal S32x96x321x16 .f32} {w2 : FVec Ideal S1x321 .f32} {w3 : FVec Ideal S1 .f32}
  {w4 : FVec Ideal S4x96 .f32} {w5 : FVec Ideal S4 .f32}

theorem given (e0 : V (Proc.devRef .tc main_arg0) = x) (e2 : V (Proc.devRef .tc main_arg2) = w2) (e3 : V (Proc.devRef .tc main_arg3) = w3)
    (e4 : V (Proc.devRef .tc main_arg4) = w4) (e5 : V (Proc.devRef .tc main_arg5) = w5)
    (h0 : ∀ b t n, x (ix4 b t n 0) = ((EReal.toReal (x (ix4 b t n 0)) : ℝ) : EReal)) (h2 : ∀ i, w2 i = ((EReal.toReal (w2 i) : ℝ) : EReal))
    (h3 : ∀ i, w3 i = ((EReal.toReal (w3 i) : ℝ) : EReal)) (h4 : ∀ i, w4 i = ((EReal.toReal (w4 i) : ℝ) : EReal))
    (h5 : ∀ i, w5 i = ((EReal.toReal (w5 i) : ℝ) : EReal)) : Cert.Reference.Given (Cert.Finite.args x w2 w3 w4 w5) V where
  x b t n := (congrFun e0 _).trans (h0 b t n)
  ws n := (congrFun e2 _).trans (h2 _)
  wb := (congrFun e3 _).trans (h3 _)
  wg e t := (congrFun e4 _).trans (h4 _)
  gb e := (congrFun e5 _).trans (h5 _)
  m1 i j := Cert.Finite.toReal_of_exists (Cert.Tables.lit0_real _)
  co t f := Cert.Finite.toReal_of_exists (Cert.Tables.lit1_real _)
  si t f := Cert.Finite.toReal_of_exists (Cert.Tables.lit2_real _)
  rc f t := Cert.Finite.toReal_of_exists (Cert.Tables.lit3_real _)
  rs f t := Cert.Finite.toReal_of_exists (Cert.Tables.lit4_real _)

end Reference

theorem algebraic : Cert.algebraic_KernelIdeal_ReferenceIdeal_pre_finite := by
  intro m ρ m' ρ' hpre hag
  have hR := reals_of_pre hpre
  refine ⟨fun c => m ((c.tc : Thread Cert.KernelIdeal.nD Cert.KernelIdeal.τ).loc Cert.KernelIdeal.main_arg0),
    fun c _ => loss (Cert.KernelIdeal.Host.reals m c), ?_, ?_⟩
  · refine (θ_run Cert.KernelIdeal.defs _ _).mono (fun r h c => ?_) (Cert.KernelIdeal.Regs.run_main (F := Ideal) m ρ)
    obtain ⟨h21, h22, hargs⟩ := h.1 c
    exact ⟨h21, h22.trans (funext fun i => Cert.KernelIdeal.Host.v22_at (hR c) i), hargs⟩
  · refine (θ_run Cert.ReferenceIdeal.defs _ _).mono (fun r h c => ?_) (Cert.ReferenceIdeal.Value.run (F := Ideal) m' ρ')
    obtain ⟨h108, h86, hargs⟩ := h c
    obtain ⟨e0, -, e2, e3, e4, e5, -, -⟩ := hag c
    have H : Cert.Reference.Given (Cert.KernelIdeal.Host.reals m c) (StableHlo.launchContents m' c) :=
      given e0 e2 e3 e4 e5 (hR c).x (hR c).ws (hR c).wb (hR c).wg (hR c).gb
    refine ⟨h108.trans (funext fun i => ?_), h86.trans (funext fun i => ?_), hargs⟩
    · obtain ⟨b, t, n, d, rfl⟩ : ∃ b t n d, i = ix4 b t n d := ⟨i 0, i 1, i 2, i 3, funext fun k => by fin_cases k <;> rfl⟩
      exact (Cert.Reference.v108_at H b t n d).trans (congrFun e0 _)
    · exact Cert.Reference.v86_at H i

end Cert.Algebra
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Words
public import proofs.«01_k».proof.Proof.KernelIdeal.Run
public import proofs.«01_k».proof.Proof.Algebra
public import Idealize.ShloMosaic.Adequacy
public import Idealize.ShloMosaic.Init

@[expose] public section

noncomputable section

namespace Cert.Proof

open Idealize.ShloMosaic Idealize.SL.Sem

/-- The kernel runs, leaves its arguments and ends with every counter at zero. -/
theorem frame_p : Cert.quiescent_Kernel := Cert.Words.frame

/-- The same of the kernel with its constant named, over the reals. -/
theorem frame_pi : Cert.quiescent_KernelIdeal := fun m ρ _ =>
  (θ_run Cert.KernelIdeal.defs _ _).mono (fun _ h => ⟨fun c => (h.1 c).2.2, h.2⟩)
    (Cert.KernelIdeal.Regs.run_main (F := Ideal) m ρ)

/-- The reference runs and leaves its arguments; it declares no counter. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Under the precondition nothing changes in the two frames. -/
theorem frame_pi_finite : Cert.quiescent_KernelIdeal_pre_finite := fun m ρ _ => frame_pi m ρ trivial

theorem frame_ri_finite : Cert.quiescent_ReferenceIdeal_pre_finite := fun m ρ _ => frame_ri m ρ trivial

/-- `two_over_length` is 1/48. -/
theorem preserves : Cert.preserves_Kernel_KernelIdeal :=
  IdealRules.named_const.statement Cert.KernelIdeal.κ "two_over_length" .f32 0x3CAAAAAB#32 ((1 / 48 : ℝ) : EReal) rfl

theorem claim : Cert.Claim := ⟨Cert.Kernel.Gen.facts, Cert.KernelIdeal.Gen.facts, Cert.ReferenceIdeal.Gen.facts,
  Cert.Finite.facts, frame_p, frame_pi, frame_pi_finite, frame_ri, frame_ri_finite, preserves, Cert.Algebra.algebraic⟩

end Cert.Proof

end
